-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S100000x128 : Shape := ⟨2, ![100000, 128]⟩
abbrev S2048x128 : Shape := ⟨2, ![2048, 128]⟩
abbrev S2048 : Shape := ⟨1, ![2048]⟩
abbrev S1000x2048 : Shape := ⟨2, ![1000, 2048]⟩
abbrev S1000 : Shape := ⟨1, ![1000]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S100000x128 .f32) (main_arg3 : FVec F S2048x128 .f32) (main_arg4 : FVec F S2048 .f32) (main_arg5 : FVec F S1000x2048 .f32) (main_arg6 : FVec F S1000 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_v6 : IVec S16384 32 := iotaInDim S16384 32 0
  let main_v7 : IVec S16384 1 := cmpi .eq main_arg1 main_v6
  let main_c_2 : IVec S_ 1 := constantI S_ 1 1#1
  let main_v8 : IVec S_ 1 := (fun x v => Host.reduce IntOp.andi x v reducesTo_S16384_S_d0 h_S_) main_v7 main_c_2
  let main_v9 : IVec S_ 1 := andi main_v5 main_v8
  main_v9
-- ==== Kernel.lean ====
abbrev S16384 : Shape := ⟨1, ![16384]⟩
abbrev S100000x128 : Shape := ⟨2, ![100000, 128]⟩
abbrev S2048x128 : Shape := ⟨2, ![2048, 128]⟩
abbrev S2048 : Shape := ⟨1, ![2048]⟩
abbrev S1000x2048 : Shape := ⟨2, ![1000, 2048]⟩
abbrev S1000 : Shape := ⟨1, ![1000]⟩
abbrev S16384x128 : Shape := ⟨2, ![16384, 128]⟩
abbrev S512 : Shape := ⟨1, ![512]⟩
abbrev S4x128x128 : Shape := ⟨3, ![4, 128, 128]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S1024x2048 : Shape := ⟨2, ![1024, 2048]⟩
abbrev S1024 : Shape := ⟨1, ![1024]⟩
abbrev S1x1024 : Shape := ⟨2, ![1, 1024]⟩
abbrev S1x2048 : Shape := ⟨2, ![1, 2048]⟩
abbrev S16384x1024 : Shape := ⟨2, ![16384, 1024]⟩
abbrev S1024x128 : Shape := ⟨2, ![1024, 128]⟩
abbrev S1024x1024 : Shape := ⟨2, ![1024, 1024]⟩

abbrev nBuf : Table → Nat
  | .hbm => 17
  | .local .tc .vmem => 8
  | .local .scVector .vmem => 2
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S2048x128, .f32⟩
  | .hbm, ⟨4, _⟩ => ⟨S2048, .f32⟩
  | .hbm, ⟨5, _⟩ => ⟨S1000x2048, .f32⟩
  | .hbm, ⟨6, _⟩ => ⟨S1000, .f32⟩
  | .hbm, ⟨7, _⟩ => ⟨S16384x128, .f32⟩
  | .hbm, ⟨8, _⟩ => ⟨S_, .i32⟩
  | .hbm, ⟨9, _⟩ => ⟨S_, .f32⟩
  | .hbm, ⟨10, _⟩ => ⟨S1024x2048, .f32⟩
  | .hbm, ⟨11, _⟩ => ⟨S_, .i32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S1x2048, .f32⟩
  | .hbm, ⟨16, _⟩ => ⟨S16384x1024, .f32⟩
  | .local .tc .vmem, ⟨0, _⟩ => ⟨S1024x128, .f32⟩
  | .local .tc .vmem, ⟨1, _⟩ => ⟨S1024x128, .f32⟩
  | .local .tc .vmem, ⟨2, _⟩ => ⟨S2048x128, .f32⟩
  | .local .tc .vmem, ⟨3, _⟩ => ⟨S1x2048, .f32⟩
  | .local .tc .vmem, ⟨4, _⟩ => ⟨S1024x2048, .f32⟩
  | .local .tc .vmem, ⟨5, _⟩ => ⟨S1x1024, .f32⟩
  | .local .tc .vmem, ⟨6, _⟩ => ⟨S1024x1024, .f32⟩
  | .local .tc .vmem, ⟨7, _⟩ => ⟨S1024x1024, .f32⟩
  | .local .scVector .vmem, ⟨0, _⟩ => ⟨S512, .i32⟩
  | .local .scVector .vmem, ⟨1, _⟩ => ⟨S4x128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_arg2_scv : Ref sig .scVector := ⟨.hbm, 2, rfl⟩
abbrev main_arg0_scv : Ref sig .scVector := ⟨.hbm, 0, rfl⟩
abbrev main_v0_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_24 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c0_i32_24
  let c0_i32_28 : BitVec 32 := 0#32
  ![v23.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100000x128 : Shape := ⟨2, ![100000, 128]⟩
abbrev S2048x128 : Shape := ⟨2, ![2048, 128]⟩
abbrev S2048 : Shape := ⟨1, ![2048]⟩
abbrev S1000x2048 : Shape := ⟨2, ![1000, 2048]⟩
abbrev S1000 : Shape := ⟨1, ![1000]⟩
abbrev S1 : Shape := ⟨1, ![1]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S1x1 : Shape := ⟨2, ![1, 1]⟩
abbrev S16384x128 : Shape := ⟨2, ![16384, 128]⟩
abbrev S16383 : Shape := ⟨1, ![16383]⟩
abbrev S128x2048 : Shape := ⟨2, ![128, 2048]⟩
abbrev S16384x2048 : Shape := ⟨2, ![16384, 2048]⟩
abbrev S1x2048 : Shape := ⟨2, ![1, 2048]⟩
abbrev S2048x1000 : Shape := ⟨2, ![2048, 1000]⟩
abbrev S16384x1000 : Shape := ⟨2, ![16384, 1000]⟩
abbrev S1x1000 : Shape := ⟨2, ![1, 1000]⟩
abbrev S16384x1024 : Shape := ⟨2, ![16384, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S2048x128, .f32⟩
  | .hbm, ⟨4, _⟩ => ⟨S2048, .f32⟩
  | .hbm, ⟨5, _⟩ => ⟨S1000x2048, .f32⟩
  | .hbm, ⟨6, _⟩ => ⟨S1000, .f32⟩
  | .hbm, ⟨7, _⟩ => ⟨S1, .i32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S16384x16384, .i32⟩
  | .hbm, ⟨15, _⟩ => ⟨S_, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S1, .i32⟩
  | .hbm, ⟨29, _⟩ => ⟨S_, .i32⟩
  | .hbm, ⟨30, _⟩ => ⟨S16384x1, .i32⟩
  | .hbm, ⟨31, _⟩ => ⟨S16384x1, .i1⟩
  | .hbm, ⟨32, _⟩ => ⟨S1x1, .i32⟩
  | .hbm, ⟨33, _⟩ => ⟨S16384x1, .i32⟩
  | .hbm, ⟨34, _⟩ => ⟨S16384x1, .i1⟩
  | .hbm, ⟨35, _⟩ => ⟨S16384x1, .i1⟩
  | .hbm, ⟨36, _⟩ => ⟨S_, .i1⟩
  | .hbm, ⟨37, _⟩ => ⟨S16384, .i1⟩
  | .hbm, ⟨38, _⟩ => ⟨S16384x128, .f32⟩
  | .hbm, ⟨39, _⟩ => ⟨S16384x128, .i1⟩
  | .hbm, ⟨40, _⟩ => ⟨S_, .f32⟩
  | .hbm, ⟨41, _⟩ => ⟨S16384x128, .f32⟩
  | .hbm, ⟨42, _⟩ => ⟨S16384x128, .f32⟩
  | .hbm, ⟨43, _⟩ => ⟨S_, .f32⟩
  | .hbm, ⟨44, _⟩ => ⟨S16384x128, .f32⟩
  | .hbm, ⟨45, _⟩ => ⟨S16384x1, .i32⟩
  | .hbm, ⟨46, _⟩ => ⟨S16384x128, .f32⟩
  | .hbm, ⟨47, _⟩ => ⟨S16383, .i32⟩
  | .hbm, ⟨48, _⟩ => ⟨S16384, .i32⟩
  | .hbm, ⟨49, _⟩ => ⟨S16384, .i32⟩
  | .hbm, ⟨50, _⟩ => ⟨S16384, .f32⟩
  | .hbm, ⟨51, _⟩ => ⟨S_, .f32⟩
  | .hbm, ⟨52, _⟩ => ⟨S16384, .f32⟩
  | .hbm, ⟨53, _⟩ => ⟨S16384, .f32⟩
  | .hbm, ⟨54, _⟩ => ⟨S16384x1, .f32⟩
  | .hbm, ⟨55, _⟩ => ⟨S16384x128, .f32⟩
  | .hbm, ⟨56, _⟩ => ⟨S16384x128, .f32⟩
  | .hbm, ⟨57, _⟩ => ⟨S128x2048, .f32⟩
  | .hbm, ⟨58, _⟩ => ⟨S16384x2048, .f32⟩
  | .hbm, ⟨59, _⟩ => ⟨S1x2048, .f32⟩
  | .hbm, ⟨60, _⟩ => ⟨S16384x2048, .f32⟩
  | .hbm, ⟨61, _⟩ => ⟨S16384x2048, .f32⟩
  | .hbm, ⟨62, _⟩ => ⟨S_, .f32⟩
  | .hbm, ⟨63, _⟩ => ⟨S16384x2048, .f32⟩
  | .hbm, ⟨64, _⟩ => ⟨S16384x2048, .f32⟩
  | .hbm, ⟨65, _⟩ => ⟨S2048x1000, .f32⟩
  | .hbm, ⟨66, _⟩ => ⟨S16384x1000, .f32⟩
  | .hbm, ⟨67, _⟩ => ⟨S1x1000, .f32⟩
  | .hbm, ⟨68, _⟩ => ⟨S16384x1000, .f32⟩
  | .hbm, ⟨69, _⟩ => ⟨S16384x1000, .f32⟩
  | .hbm, ⟨70, _⟩ => ⟨S_, .i32⟩
  | .hbm, ⟨71, _⟩ => ⟨S_, .f32⟩
  | .hbm, ⟨72, _⟩ => ⟨S16384x1024, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_2 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call1_cst : Ref sig .tc := ⟨.hbm, 62, rfl⟩
abbrev main_call1_v0 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_3 : Ref sig .tc := ⟨.hbm, 70, rfl⟩
abbrev main_call2_v0 : Ref sig .tc := ⟨.hbm, 71, rfl⟩
abbrev main_v34 : Ref sig .tc := ⟨.hbm, 72, rfl⟩

abbrev nD : Nat := 1
abbrev τ : Topo := Topo.v7x

variable {F : FTy → Type} [FloatOps F]
-- ==== Proof.InRange.lean ====
/-
  What the precondition `in_range` says of the arguments, word by word: every index is a row number of the table,
  and the bags' offsets count 0, 1, 2, ….
-/
module

public import proofs.«01_k».proof.Pre_in_range
public import Idealize.ShloMosaic.Lib.ReduceAll
public import Idealize.ShloMosaic.Lib.Affine
public import Idealize.ShloMosaic.Lib.WordCmp
public import Idealize.ShloMosaic.Lib.StableHlo.Predicate

@[expose] public section

noncomputable section

namespace Cert.Proof.InRange

open Idealize.ShloMosaic Cert.Pre_in_range

variable {F : FTy → Type} [FloatOps F] [Cert.Pre_in_range.Facts]
variable (text offsets : IVec S16384 32) (table : FVec F S100000x128 .f32) (w1 : FVec F S2048x128 .f32) (b1 : FVec F S2048 .f32)
  (w2 : FVec F S1000x2048 .f32) (b2 : FVec F S1000 .f32)

instance : Subsingleton S_.Idx := ⟨fun _ _ => funext fun a => a.elim0⟩

/-- Where the predicate is one, each index word is below the table's height and each offset is its position. -/
theorem words (h : fn text offsets table w1 b1 w2 b2 = fun _ => 1#1) :
    (∀ i, (text i).toNat < 100000) ∧ ∀ i, offsets i = BitVec.ofNat 32 (i 0).val := by
  have h0 := congrFun h (fun a => a.elim0)
  obtain ⟨ht, ho⟩ := (IntOp.andi_eq_one (c := _) (d := _)).mp h0
  refine ⟨fun i => ?_, fun i => ?_⟩
  · have e := Host.reduce_andi_all _ _ _ _ _ ht i
    have e' : IntOp.andi (IntOp.cmpi .sge (text i) 0#32) (IntOp.cmpi .slt (text i) (BitVec.ofNat 32 100000)) = 1#1 := e
    rw [WordCmp.andi_sge_zero_slt_ofNat (by decide)] at e'
    exact (WordCmp.ofBool_decide_eq_one_iff _).mp e'
  · have e := Host.reduce_andi_all _ _ _ _ _ ho i
    exact StableHlo.Predicate.cmpi_eq_iff.mp e

end Cert.Proof.InRange

end
-- ==== Proof.KernelIdeal.Tiles.lean ====
/-
  The gather call as the launch theorem sees it, and how its buffers are cut over the thirty-two vector subcores.

  Subcore `(c, i)` owns tile `2 i + c`: words `512 k … 512 k + 511` of the index list and the same rows of the
  result, the rows in four chunks of 128. Every tile reads the whole table, so the table's full share is cut in
  thirty-two. All definitions and lemmas here are about index sets and shares; the task itself is in `Task.lean`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.ValueIdx
public import Idealize.ShloMosaic.Lib.Tactic
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen
open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch and its resource algebra -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call's semaphores are distinct and unscoped, and no buffer is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the matrix region's rounds, the transfers' counters. -/
abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL

/-! ## The call's buffers -/

variable (m : (ℓ : Loc nD τ sig) → Buf (Elt F) ℓ)

abbrev iLoc (d : Dev nD) : Loc nD τ sig := (SparseCore.T d).loc main_arg0
abbrev xLoc (d : Dev nD) : Loc nD τ sig := (SparseCore.T d).loc main_arg2
abbrev oLoc (d : Dev nD) : Loc nD τ sig := (SparseCore.T d).loc main_v0

abbrev iV : Memref sig .scVector .hbm S16384 .i32 := Memref.whole main_arg0_scv
abbrev xV : Memref sig .scVector .hbm S100000x128 .f32 := Memref.whole main_arg2_scv
abbrev oV : Memref sig .scVector .hbm S16384x128 .f32 := Memref.whole main_v0_scv
abbrev sV : Memref sig .scVector .vmem S512 .i32 := Memref.whole cc0_scratch0
abbrev rV : Memref sig .scVector .vmem S4x128x128 .f32 := Memref.whole cc0_scratch1

/-! ## What the call computes -/

/-- The table's row an index word names. (The words are all in range, so the remainder is the word.) -/
def rowOf (t : BitVec 32) : Fin 100000 := ⟨t.toNat % 100000, Nat.mod_lt _ (by decide)⟩

/-- The gathered rows: row `r` of the result is the row of the table that word `r` of the list names. -/
def gathered (text : S16384.Idx → BitVec 32) (tab : S100000x128.Idx → F .f32) : S16384x128.Idx → F .f32 :=
  fun j => tab (ix2 (rowOf (text (ix1 (j 0)))) (j 1))

/-- The result's contents after the call, from the launch memory. -/
def G (d : Dev nD) : Buf (Elt F) (oLoc d) := gathered (F := F) (m (iLoc d)) (m (xLoc d))

/-- Every index word names a row of the table. -/
def PreOK : Prop := ∀ (d : Dev nD) (j : S16384.Idx), (m (iLoc d) j).toNat < 100000

/-! ## The cuts -/

theorem idiv : 32 ∣ S16384.size 0 := ⟨512, rfl⟩
theorem odiv : 128 ∣ S16384x128.size 0 := ⟨128, rfl⟩
theorem ldiv : 4 ∣ S512.size 0 := ⟨128, rfl⟩
theorem rdiv : 4 ∣ S4x128x128.size 0 := ⟨1, rfl⟩

abbrev iSet (k : Fin 32) : Finset S16384.Idx := (Rect.part (s := S16384) (a₀ := 0) idiv k).set
abbrev oSet (b : Fin 128) : Finset S16384x128.Idx := (Rect.part (s := S16384x128) (a₀ := 0) odiv b).set
abbrev lSet (c : Fin 4) : Finset S512.Idx := (Rect.part (s := S512) (a₀ := 0) ldiv c).set
abbrev rSet (c : Fin 4) : Finset S4x128x128.Idx := (Rect.part (s := S4x128x128) (a₀ := 0) rdiv c).set

/-- Chunk `c` of tile `k`, as a block of 128 rows of the result. -/
abbrev blk (k : Fin 32) (c : Fin 4) : Fin 128 := finProdFinEquiv (k, c)
/-- Tile `k`'s share of the table. -/
abbrev xq (k : Fin 32) : PosShare TreeShare := pieceOf fullShare 32 (by decide) k
/-- The share chunk `c` of tile `k` reads the table at. -/
abbrev xqc (k : Fin 32) (c : Fin 4) : PosShare TreeShare := pieceOf (xq k) 4 (by decide) c

/-- Four separate parts from a family over four. -/
theorem four (Φ : Fin 4 → sProp 𝕄) : bigSep Finset.univ Φ = iprop(Φ 0 ∗ Φ 1 ∗ Φ 2 ∗ Φ 3) :=
  (bigSep_univ_eq_bigSepL [0, 1, 2, 3] (by decide) (by decide) Φ)

/-- The index list over the tiles. -/
theorem iPts_tiles (d : Dev nD) (f : Buf (Elt F) (iLoc d)) :
    (iLoc d ↦{fullShare} f : sProp 𝕄) = bigSep Finset.univ fun k : Fin 32 => iLoc d ↦[iSet k]{fullShare} f := by
  rw [← pointsTo_biUnion Finset.univ (ℓ := iLoc d) iSet fun i _ j _ h => Rect.part_disjoint idiv h]
  exact congrArg (fun I => (iLoc d ↦[I]{fullShare} f : sProp 𝕄)) (Rect.biUnion_part idiv).symm

/-- The table over the tiles. -/
theorem xPts_tiles (d : Dev nD) (f : Buf (Elt F) (xLoc d)) :
    (xLoc d ↦{fullShare} f : sProp 𝕄) = bigSep Finset.univ fun k : Fin 32 => xLoc d ↦{xq k} f :=
  pointsTo_piecesOf Finset.univ f (by decide) fullShare

/-- The result over the tiles' chunks. -/
theorem oPts_tiles (d : Dev nD) (f : Buf (Elt F) (oLoc d)) :
    (oLoc d ↦{fullShare} f : sProp 𝕄)
      = bigSep Finset.univ fun k : Fin 32 => bigSep Finset.univ fun c : Fin 4 => oLoc d ↦[oSet (blk k c)]{fullShare} f := by
  rw [← bigSep_univ_prod (fun kc : Fin 32 × Fin 4 => (oLoc d ↦[oSet (blk kc.1 kc.2)]{fullShare} f : sProp 𝕄)),
    ← bigSep_univ_equiv (finProdFinEquiv (m := 32) (n := 4)) (fun b : Fin 128 => (oLoc d ↦[oSet b]{fullShare} f : sProp 𝕄)),
    ← pointsTo_biUnion Finset.univ (ℓ := oLoc d) oSet fun i _ j _ h => Rect.part_disjoint odiv h]
  exact congrArg (fun I => (oLoc d ↦[I]{fullShare} f : sProp 𝕄)) (Rect.biUnion_part odiv).symm

section Tile

variable (d : Dev nD) (L : grid0.Coords)

abbrev cV (L : grid0.Coords) : Fin τ.nSC := (L 0).castLE hcore0
abbrev jV (L : grid0.Coords) : Fin τ.nSub := (L 1).castLE hsub0
theorem L0_lt : (L 0).val < 2 := (L 0).isLt
theorem L1_lt : (L 1).val < 16 := (L 1).isLt
/-- The tile of subcore `L`. -/
abbrev kL (L : grid0.Coords) : Fin 32 := ⟨2 * (L 1).val + (L 0).val, by have := L0_lt L; have := L1_lt L; omega⟩

theorem lInb (c : Fin 4) : ∀ a, (![128 * c.val] : Fin 1 → ℕ) a + S128.size a ≤ S512.size a := by revert c; decide
theorem rInb (c : Fin 4) : ∀ a, (![c.val, 0, 0] : Fin 3 → ℕ) a + S1x128x128.size a ≤ S4x128x128.size a := by revert c; decide

/-- The tile's words of the list, the whole table, chunk `c` of the fetched list, of the row buffer and of the result,
    as the task names them. -/
abbrev iK (L : grid0.Coords) : Memref sig .scVector .hbm S512 .i32 :=
  iV.slice (Rect.unit (s := S16384) (k0_off1 L) S512.size (k0_off1_inb L)) (fun _ => rfl)
abbrev xK : Memref sig .scVector .hbm S100000x128 .f32 :=
  xV.slice (Rect.unit (s := S100000x128) ![0, 0] S100000x128.size inb_S100000x128_S100000x128_0_0) (fun _ => rfl)
abbrev lK (c : Fin 4) : Memref sig .scVector .vmem S128 .i32 :=
  sV.slice (Rect.unit (s := S512) ![128 * c.val] S128.size (lInb c)) (fun _ => rfl)
abbrev rK (c : Fin 4) : Memref sig .scVector .vmem S128x128 .f32 :=
  (rV.slice (Rect.unit (s := S4x128x128) ![c.val, 0, 0] S1x128x128.size (rInb c)) (fun _ => rfl)).squeeze S128x128 squeezes_S1x128x128_S128x128
abbrev oK (L : grid0.Coords) (c : Fin 4) : Memref sig .scVector .hbm S128x128 .f32 :=
  oV.slice (Rect.unit (s := S16384x128) (k0_off2 L (BitVec.ofNat 32 (128 * c.val))) S128x128.size (k0_off2_inb L c)) (fun _ => rfl)

/-- Equal corners and extents make equal rectangles. -/
theorem unit_set {s : Shape} {o o' z z' : Fin s.rank → ℕ} (h : ∀ a, o a + z a ≤ s.size a) (h' : ∀ a, o' a + z' a ≤ s.size a)
    (ho : o = o') (hz : z = z') : (Rect.unit o z h).set = (Rect.unit o' z' h').set := by subst ho hz; rfl

theorem set_iK : (iK L).view.set = iSet (kL L) := by
  show ((View.whole (main_arg0_scv : Ref sig .scVector)).slice _).set = _
  rw [View.set_slice_whole]
  unfold iSet Rect.part Rect.block
  refine unit_set _ _ (funext fun a => ?_) (funext fun a => ?_)
  · rw [k0_off1_eq]
    match a with
    | 0 => simp [Shape.partIx, Shape.partSize]; omega
  · match a with
    | 0 => simp [Shape.partSize]

theorem set_oK (c : Fin 4) : (oK L c).view.set = oSet (blk (kL L) c) := by
  show ((View.whole (main_v0_scv : Ref sig .scVector)).slice _).set = _
  rw [View.set_slice_whole]
  unfold oSet Rect.part Rect.block
  refine unit_set _ _ (funext fun a => ?_) (funext fun a => ?_)
  · rw [k0_off2_eq]
    match a with
    | 0 => simp [Shape.partIx, Shape.partSize, finProdFinEquiv]; omega
    | 1 => simp [Shape.partIx, Shape.partSize]
  · match a with
    | 0 => simp [Shape.partSize]
    | 1 => simp [Shape.partSize]

theorem set_lK (c : Fin 4) : (lK c).view.set = lSet c := by
  show ((View.whole (cc0_scratch0 : Ref sig .scVector)).slice _).set = _
  rw [View.set_slice_whole]
  unfold lSet Rect.part Rect.block
  refine unit_set _ _ (funext fun a => ?_) (funext fun a => ?_)
  · match a with
    | 0 => simp [Shape.partIx, Shape.partSize]; omega
  · match a with
    | 0 => simp [Shape.partSize]

theorem set_rK (c : Fin 4) : (rK c).view.set = rSet c := by
  show (((View.whole (cc0_scratch1 : Ref sig .scVector)).slice (Rect.unit (s := S4x128x128) ![c.val, 0, 0] S1x128x128.size (rInb c))).reshape
    S128x128 squeezes_S1x128x128_S128x128.numel_eq).set = _
  rw [View.set_reshape, View.set_slice_whole]
  unfold rSet Rect.part Rect.block
  refine unit_set _ _ (funext fun a => ?_) (funext fun a => ?_)
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-- The whole table through the task's slice of it is all of it. -/
theorem set_xK : (xK).view.set = Finset.univ := by
  show ((View.whole (main_arg2_scv : Ref sig .scVector)).slice _).set = _
  rw [View.set_slice_whole]
  refine Finset.eq_univ_iff_forall.mpr fun j => ?_
  rw [← Rect.map_emb_univ]
  refine Finset.mem_map.mpr ⟨j, Finset.mem_univ _, funext fun a => Fin.ext ?_⟩
  rw [Rect.emb_apply]
  match a with
  | 0 => simp [Rect.unit]
  | 1 => simp [Rect.unit]

/-! ## Positions -/

/-- Word `y` of chunk `c` of the fetched list is word `128 c + y` of it. -/
theorem emb_lK (c : Fin 4) (y : S128.Idx) : ((lK c).view.emb y 0).val = 128 * c.val + (y 0).val := by
  show ((Rect.unit (s := S512) ![128 * c.val] S128.size (lInb c)).emb y 0).val = _
  rw [Rect.emb_apply]; simp [Rect.unit]

/-- Word `y` of the tile's part of the list is word `512 k + y` of the list. -/
theorem emb_iK (y : S512.Idx) : ((iK L).view.emb y 0).val = 512 * (kL L).val + (y 0).val := by
  show ((Rect.unit (s := S16384) (k0_off1 L) S512.size (k0_off1_inb L)).emb y 0).val = _
  rw [Rect.emb_apply]; simp [Rect.unit, k0_off1_eq]; omega

/-- Row `y` of chunk `c` of the tile's rows is row `512 k + 128 c + y` of the result; columns are kept. -/
theorem emb_oK0 (c : Fin 4) (y : S128x128.Idx) : ((oK L c).view.emb y 0).val = 512 * (kL L).val + 128 * c.val + (y 0).val := by
  show ((Rect.unit (s := S16384x128) (k0_off2 L (BitVec.ofNat 32 (128 * c.val))) S128x128.size (k0_off2_inb L c)).emb y 0).val = _
  rw [Rect.emb_apply]; simp [Rect.unit, k0_off2_eq]; omega
theorem emb_oK1 (c : Fin 4) (y : S128x128.Idx) : ((oK L c).view.emb y 1).val = (y 1).val := by
  show ((Rect.unit (s := S16384x128) (k0_off2 L (BitVec.ofNat 32 (128 * c.val))) S128x128.size (k0_off2_inb L c)).emb y 1).val = _
  rw [Rect.emb_apply]; simp [Rect.unit, k0_off2_eq]
theorem emb_xK (y : S100000x128.Idx) : (xK).view.emb y = y := by
  funext a; apply Fin.ext
  show ((Rect.unit (s := S100000x128) ![0, 0] S100000x128.size inb_S100000x128_S100000x128_0_0).emb y a).val = _
  rw [Rect.emb_apply]
  match a with
  | 0 => simp [Rect.unit]
  | 1 => simp [Rect.unit]

end Tile

end Cert.Proof.KernelIdealRun

end
-- ==== Proof.KernelIdeal.Task.lean ====
/-
  The gather task of one vector subcore: its 512 index words fetched, four indirect gathers of 128 table rows each in
  flight at once, each chunk copied to the result as soon as it has landed, the four copies awaited last. What it is
  handed and hands back is `tileRes`: its words of the list, a share of the table, and its chunks of the result, which
  end at the gathered rows.
-/
module

public import proofs.«01_k».proof.Proof.KernelIdeal.Tiles

@[expose] public section

noncomputable section

namespace Cert.Proof.KernelIdealRun

open Cert.KernelIdeal Cert.KernelIdeal.Gen
open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The values in flight -/

section Values

variable (d : Dev nD) (L : grid0.Coords)

/-- The list as fetched: the tile's words. -/
abbrev lst : S512.Idx → Elt F .i32 := (iK L).view.read (Elt F) (m (iLoc d))

/-- The chunk of the result the tile is to write. -/
abbrev chunk (c : Fin 4) : S128x128.Idx → Elt F .f32 := (oK L c).view.read (Elt F) (G m d)

theorem lst_apply (y : S512.Idx) : lst m d L y = m (iLoc d) ((iK L).view.emb y) := rfl

/-- Every fetched word is in range. -/
theorem lst_lt (hpre : PreOK m) (c : Fin 4) (y : S128.Idx) :
    ((lK c).view.read (Elt F) (lst m d L) y).toNat < S100000x128.size gathers_S100000x128_S128x128.axis :=
  hpre d _

/-- A gather's payload is the chunk of the result: row `y` of it is the table's row that word `512 k + 128 c + y` names. -/
theorem pay_eq (hpre : PreOK m) (c : Fin 4) :
    SparseCore.gatherPayload gathers_S100000x128_S128x128 ((xK).view.read (Elt F) (m (xLoc d)))
        (SparseCore.rows ((lK c).view.read (Elt F) (lst m d L)) (rfl : S128.numel = S128x128.size gathers_S100000x128_S128x128.axis') (lst_lt m d L hpre c))
      = chunk m d L c := by
  funext y
  have hw : ∀ k : Fin 128, (S128.rowMajor.symm k) = ix1 k := fun k => by
    exact (Equiv.symm_apply_eq S128.rowMajor).mpr (Fin.ext (Shape.rowMajor_val_one (d := ![128]) (ix1 k)).symm)
  have hword : (lK c).view.read (Elt F) (lst m d L) (S128.rowMajor.symm (y 0)) = m (iLoc d) (ix1 ((oK L c).view.emb y 0)) := by
    rw [show (lK c).view.read (Elt F) (lst m d L) (S128.rowMajor.symm (y 0))
      = m (iLoc d) ((iK L).view.emb ((lK c).view.emb (S128.rowMajor.symm (y 0)))) from rfl, hw (y 0)]
    refine congrArg (m (iLoc d)) ?_
    refine (eq_ix1 (n := 16384) _).trans (congrArg ix1 (Fin.ext ?_))
    refine (emb_iK L _).trans ?_
    rw [emb_lK, emb_oK0]
    show 512 * (kL L).val + (128 * c.val + (y 0).val) = _
    omega
  show m (xLoc d) ((xK).view.emb (gathers_S100000x128_S128x128.idx _ y))
    = m (xLoc d) (ix2 (rowOf (m (iLoc d) (ix1 ((oK L c).view.emb y 0)))) ((oK L c).view.emb y 1))
  rw [emb_xK]
  refine congrArg (m (xLoc d)) ((eq_ix2 (n0 := 100000) (n1 := 128) _).trans ?_)
  congr 1
  · refine (Shape.Gathers.idx_axis gathers_S100000x128_S128x128 _ y).trans (Fin.ext ?_)
    show ((lK c).view.read (Elt F) (lst m d L) (S128.rowMajor.symm (y 0))).toNat = _
    rw [hword]
    exact (Nat.mod_eq_of_lt (hpre d _)).symm
  · refine Fin.ext ((Shape.Gathers.idx_of_ne gathers_S100000x128_S128x128 _ y 1 (by decide)).trans ?_)
    exact (emb_oK1 L c y).symm

/-- Copying the landed chunk out writes the gathered rows on the chunk. -/
theorem out_eq (c : Fin 4) (fr : Buf (Elt F) ((V d (cV L) (jV L)).loc cc0_scratch1)) (fo : Buf (Elt F) (oLoc d)) :
    ∀ i ∈ (oK L c).view.set,
      (oK L c).view.write (Elt F) fo ((rK c).view.read (Elt F) ((rK c).view.write (Elt F) fr (chunk m d L c) Finset.univ)) Finset.univ i = G m d i := by
  intro i hi
  obtain ⟨y, -, rfl⟩ := Finset.mem_map.mp hi
  rw [View.read_write_univ, View.write_emb_of_mem _ _ (Finset.mem_univ y)]
  rfl

end Values

/-! ## The tile's resources -/

/-- Tile `k`'s part of the list, its share of the table, its chunks of the result at `f`. -/
abbrev tileRes (d : Dev nD) (f : Buf (Elt F) (oLoc d)) (k : Fin 32) : sProp 𝕄 :=
  iprop((iLoc d ↦[iSet k]{fullShare} m (iLoc d)) ∗ (xLoc d ↦{xq k} m (xLoc d))
    ∗ bigSep Finset.univ fun c : Fin 4 => oLoc d ↦[oSet (blk k c)]{fullShare} f)

section Tile

variable (d : Dev nD) (L : grid0.Coords)

abbrev thr (d : Dev nD) (L : grid0.Coords) : Thread nD τ := V d (cV L) (jV L)

/-- The subcore's semaphore cells the task uses: the four gathers', the copies', the fetch's. -/
abbrev semOf : Fin 6 → DmaSem sig
  | 0 => cc0_scratch2.sem | 1 => cc0_scratch3.sem | 2 => cc0_scratch4.sem | 3 => cc0_scratch5.sem | 4 => cc0_scratch6.sem | 5 => cc0_scoped0.sem
abbrev cellOf6 (d : Dev nD) (L : grid0.Coords) (n : Fin 6) : GSem nD τ sig := (thr d L, .dma (semOf n))

theorem semOf_inj : Function.Injective semOf := by decide
theorem semOf_scoped (n : Fin 6) : (SemLoc.dma (semOf n) : SemLoc sig).isScoped .scVector = true := by revert n; decide

theorem cellOf6_inj : Function.Injective (cellOf6 d L) :=
  fun a b h => semOf_inj (by simpa using congrArg (fun g : GSem nD τ sig => g.2) h)
abbrev six (d : Dev nD) (L : grid0.Coords) : Finset (GSem nD τ sig) := Finset.univ.map ⟨cellOf6 d L, cellOf6_inj d L⟩

/-- The six cells are among the subcore's own: they are them, at zero, and the rest. -/
theorem ownSems0_six :
    (ownSems0 (thr d L) : sProp 𝕄)
      = iprop((semVal (cellOf6 d L 0) 0 ∗ semVal (cellOf6 d L 1) 0 ∗ semVal (cellOf6 d L 2) 0 ∗ semVal (cellOf6 d L 3) 0
            ∗ semVal (cellOf6 d L 4) 0 ∗ semVal (cellOf6 d L 5) 0)
          ∗ bigSep (ownCells (thr d L) \ six d L) fun g => semVal g 0) := by
  have hsub : six d L ⊆ ownCells (thr d L) := by
    intro g hg
    obtain ⟨n, -, rfl⟩ := Finset.mem_map.mp hg
    exact (mem_ownCells (g := cellOf6 d L n)).mpr ⟨rfl, semOf_scoped n⟩
  unfold SparseCore.Cfg.ownSems0
  rw [bigSep_sdiff_split hsub, bigSep_map, bigSep_univ_eq_bigSepL [0, 1, 2, 3, 4, 5] (by decide) (by decide)]
  rfl

/-- The two scratch buffers are among the subcore's own: they are them, at some contents, and the rest. -/
theorem ownBufs_two :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  have own0 := SparseCore.Cfg.mem_ownRefs_of_owner (p := Proc.scVector (cV L) (jV L)) (b := (Proc.scVector (cV L) (jV L)).devRef cc0_scratch0) rfl
  have own1 := SparseCore.Cfg.mem_ownRefs_of_owner (p := Proc.scVector (cV L) (jV L)) (b := (Proc.scVector (cV L) (jV L)).devRef cc0_scratch1) rfl
  have hne : (Proc.scVector (cV L) (jV L)).devRef cc0_scratch1 ≠ (Proc.scVector (cV L) (jV L)).devRef cc0_scratch0 :=
    fun e => absurd (Proc.devRef_injective _ e) (show (cc0_scratch1 : Ref sig .scVector) ≠ cc0_scratch0 by decide)
  unfold SparseCore.Cfg.ownBufs
  exact (SparseCore.bigSep_erase' own0).trans (congrArg _ (SparseCore.bigSep_erase' (Finset.mem_erase.mpr ⟨hne, own1⟩)))

/-! ## The scratch buffers, cut into their four chunks and joined again -/

theorem lPts_four (f : Buf (Elt F) ((thr d L).loc cc0_scratch0)) :
    ((thr d L).loc cc0_scratch0 ↦{fullShare} f : sProp 𝕄)
      = bigSep Finset.univ fun c : Fin 4 => (lK c).view.loc (thr d L) ↦[(lK c).view.set]{fullShare} f := by
  refine Eq.trans ?_ (bigSep_congr fun c _ => show ((thr d L).loc cc0_scratch0 ↦[lSet c]{fullShare} f : sProp 𝕄) = _ by rw [set_lK])
  rw [← pointsTo_biUnion Finset.univ (ℓ := (thr d L).loc cc0_scratch0) lSet fun i _ j _ h => Rect.part_disjoint ldiv h]
  exact congrArg (fun I => ((thr d L).loc cc0_scratch0 ↦[I]{fullShare} f : sProp 𝕄)) (Rect.biUnion_part ldiv).symm

theorem rPts_four (f : Buf (Elt F) ((thr d L).loc cc0_scratch1)) :
    ((thr d L).loc cc0_scratch1 ↦{fullShare} f : sProp 𝕄)
      = bigSep Finset.univ fun c : Fin 4 => (rK c).view.loc (thr d L) ↦[(rK c).view.set]{fullShare} f := by
  refine Eq.trans ?_ (bigSep_congr fun c _ => show ((thr d L).loc cc0_scratch1 ↦[rSet c]{fullShare} f : sProp 𝕄) = _ by rw [set_rK])
  rw [← pointsTo_biUnion Finset.univ (ℓ := (thr d L).loc cc0_scratch1) rSet fun i _ j _ h => Rect.part_disjoint rdiv h]
  exact congrArg (fun I => ((thr d L).loc cc0_scratch1 ↦[I]{fullShare} f : sProp 𝕄)) (Rect.biUnion_part rdiv).symm

/-- Chunk `c` of the row buffer, at some contents. -/
abbrev rSome (d : Dev nD) (L : grid0.Coords) (c : Fin 4) : sProp 𝕄 :=
  iprop(∃ f, (rK c).view.loc (thr d L) ↦[(rK c).view.set]{fullShare} f)

theorem rPts_join [FloatOps F] : (bigSep Finset.univ fun c : Fin 4 => rSome (F := F) d L c)
    ⊢ iprop(∃ f, ((thr d L).loc cc0_scratch1 ↦{fullShare} f : sProp 𝕄)) := by
  refine (bigSep_exists_pi Finset.univ (fun c (f : Buf (Elt F) ((thr d L).loc cc0_scratch1)) =>
    ((rK c).view.loc (thr d L) ↦[(rK c).view.set]{fullShare} f : sProp 𝕄))).trans ?_
  iintro ⟨%fs, H⟩
  ihave H := (Entails.of_eq (bigSep_congr fun c _ => show ((rK c).view.loc (thr d L) ↦[(rK c).view.set]{fullShare} fs c : sProp 𝕄)
    = (thr d L).loc cc0_scratch1 ↦[rSet c]{fullShare} fs c by rw [set_rK])) $$ H
  have : Nonempty (Buf (Elt F) ((thr d L).loc cc0_scratch1)) := ⟨fs 0⟩
  ihave H' := (pointsTo_biUnion_join (ℓ := (thr d L).loc cc0_scratch1) (q := fullShare) (Val := Elt F) Finset.univ rSet fs (fs 0)
    fun i _ j _ h => Rect.part_disjoint rdiv h) $$ H
  icases H' with ⟨%g, -, Hg⟩
  rw [show (Finset.univ : Finset (Fin 4)).biUnion rSet = Finset.univ from Rect.biUnion_part rdiv]
  iexists g; iexact Hg

/-- The tile's share of the table, one part per chunk, through the task's slice of it. -/
theorem xPts_four (q : PosShare TreeShare) (f : Buf (Elt F) (xLoc d)) :
    (xLoc d ↦{q} f : sProp 𝕄)
      = bigSep Finset.univ fun c : Fin 4 => (xK).view.loc (thr d L) ↦[(xK).view.set]{pieceOf q 4 (by decide) c} f := by
  rw [set_xK]; exact pointsTo_piecesOf Finset.univ f (by decide) q

/-- The tile's chunks of the result, through the task's slices of it. -/
theorem oPts_four (f : Buf (Elt F) (oLoc d)) :
    (bigSep Finset.univ fun c : Fin 4 => (oLoc d ↦[oSet (blk (kL L) c)]{fullShare} f : sProp 𝕄))
      = bigSep Finset.univ fun c : Fin 4 => (oK L c).view.loc (thr d L) ↦[(oK L c).view.set]{fullShare} f :=
  bigSep_congr fun c _ => by rw [set_oK]

/-- The tile's part of the list, through the task's slice of it. -/
theorem iPts_one (f : Buf (Elt F) (iLoc d)) :
    (iLoc d ↦[iSet (kL L)]{fullShare} f : sProp 𝕄) = (iK L).view.loc (thr d L) ↦[(iK L).view.set]{fullShare} f := by
  rw [set_iK]

/-! ## The task -/

/-- What a chunk's copy hands back: the chunk of the result at the gathered rows, the chunk of the row buffer. -/
abbrev delivered (d : Dev nD) (L : grid0.Coords) (c : Fin 4) : sProp 𝕄 :=
  iprop(((oK L c).view.loc (thr d L) ↦[(oK L c).view.set]{fullShare} G m d) ∗ rSome (F := F) d L c)

/-- A gather's wait hands back the chunk of the row buffer at the chunk of the result. -/
theorem landed (hpre : PreOK m) (c : Fin 4) (fr : Buf (Elt F) ((thr d L).loc cc0_scratch1)) :
    ((rK c).view.loc (thr d L) ↦[(rK c).view.set]{fullShare}
        (rK c).view.write (Elt F) fr (SparseCore.gatherPayload gathers_S100000x128_S128x128 ((xK).view.read (Elt F) (m (xLoc d)))
          (SparseCore.rows ((lK c).view.read (Elt F) (lst m d L)) (rfl : S128.numel = S128x128.size gathers_S100000x128_S128x128.axis') (lst_lt m d L hpre c))) Finset.univ : sProp 𝕄)
      ⊢ (rK c).view.loc (thr d L) ↦[(rK c).view.set]{fullShare} (rK c).view.write (Elt F) fr (chunk m d L c) Finset.univ :=
  Entails.of_eq (by rw [pay_eq m d L hpre c])

/-- A chunk's copy delivers what `delivered` says. -/
theorem deliver (c : Fin 4) (fr : Buf (Elt F) ((thr d L).loc cc0_scratch1)) (fo : Buf (Elt F) (oLoc d)) :
    iprop(((oK L c).view.loc (thr d L) ↦[(oK L c).view.set]{fullShare}
          (oK L c).view.write (Elt F) fo ((rK c).view.read (Elt F) ((rK c).view.write (Elt F) fr (chunk m d L c) Finset.univ)) Finset.univ)
        ∗ ((rK c).view.loc (thr d L) ↦[(rK c).view.set]{fullShare} (rK c).view.write (Elt F) fr (chunk m d L c) Finset.univ))
      ⊢ (delivered m d L c : sProp 𝕄) := by
  rw [pointsTo_congr (out_eq m d L c fr fo)]
  iintro ⟨Ho, Hr⟩
  isplitl [Ho]; · iexact Ho
  iexists _; iexact Hr

theorem rowCredit (c : Fin 4) : ∑ j, ((rK c).slice (S128x128.rowRect gathers_S100000x128_S128x128.axis' j)
      (S128x128.stride_rowRect gathers_S100000x128_S128x128.axis' j)).view.dmaCredit = (rK c).view.dmaCredit := by
  revert c; decide

variable [FloatOps F]

set_option maxHeartbeats 4000000 in
set_option maxRecDepth 65536 in
/-- The task on vector subcore `L` of device `d`: from the tile's resources at the launch memory to the same with its
    chunks of the result at the gathered rows. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m d (m (oLoc d)) (kL L)
        ∗ scopedBufs (thr d L) ∗ scopedSems0 (thr d L) ∗ owes (thr d L) O W)
      ⊢ wp frame (wpE (defs₀ (F := F)) 𝒱₀ (thr d L) none) Set.univ
          (cc0_gather_kernel L xV (Memref.isWhole_whole _) iV (Memref.isWhole_whole _) oV (Memref.isWhole_whole _)
            sV (Memref.isWhole_whole _) rV (Memref.isWhole_whole _) cc0_scratch2 cc0_scratch3 cc0_scratch4 cc0_scratch5 cc0_scratch6 cc0_scoped0)
          fun _ => iprop(tileRes m d (G m d) (kL L)
            ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  simp only [k0_part1_eq_skeleton, k0_part2_eq_skeleton, k0_part3_eq_skeleton]; unfold k0_part1_skel k0_part2_skel k0_part3_skel
  rw [(K (F := F)).scopedBufs_V hF d (cV L) (jV L), SparseCore.Cfg.scopedSems0_V (Val := Elt F) d (cV L) (jV L), ownSems0_six, ownBufs_two]
  unfold tileRes
  rw [iPts_one d L, xPts_four d L, oPts_four d L, oPts_four d L, four, four, four]
  iintro ⟨#Hlv, -, ⟨Hi, ⟨Hx0, Hx1, Hx2, Hx3⟩, ⟨Ho0, Ho1, Ho2, Ho3⟩⟩, ⟨⟨%fs, Hs⟩, ⟨%fr, Hr⟩, Hbufs⟩, ⟨⟨Hg0, Hg1, Hg2, Hg3, Hcp, Hft⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hs' := (Entails.of_eq (show ((thr d L).loc cc0_scratch0 ↦{fullShare} fs : sProp 𝕄) = (sV).view.loc (thr d L) ↦{fullShare} fs from rfl)) $$ Hs
  sl_exec
  -- the fetched list, cut into its four chunks; the row buffer likewise
  ihave Hl := (Entails.of_eq (show ((sV).view.loc (thr d L) ↦{fullShare} _ : sProp 𝕄)
      = (thr d L).loc cc0_scratch0 ↦{fullShare} lst m d L from congrArg (fun f => ((thr d L).loc cc0_scratch0 ↦{fullShare} f : sProp 𝕄))
        (View.write_whole_univ _ _ _))) $$ Hs'
  ihave Hl := (Entails.of_eq ((lPts_four d L _).trans (four _))) $$ Hl
  icases Hl with ⟨Hl0, Hl1, Hl2, Hl3⟩
  ihave Hr := (Entails.of_eq ((rPts_four d L _).trans (four _))) $$ Hr
  icases Hr with ⟨Hr0, Hr1, Hr2, Hr3⟩
  -- the four gathers
  iapply (SparseCore.wp_indirectGatherLocal countersEmb 𝒱₀ (thr d L) none (hg := gathers_S100000x128_S128x128) (default : HIx 1)
      (rK 0).view.dmaCredit (rowCredit 0) (by decide) (lst_lt m d L hpre 0)) $$ [Hx0 Hr0 Hl0 Hg0]
  · isplitl [Hx0]; · iexact Hx0
    isplitl [Hr0]; · iexact Hr0
    isplitl [Hl0]; · iexact Hl0
    iexact Hg0
  iintro Hf0
  sl_exec
  iapply (SparseCore.wp_indirectGatherLocal countersEmb 𝒱₀ (thr d L) none (hg := gathers_S100000x128_S128x128) (default : HIx 1)
      (rK 1).view.dmaCredit (rowCredit 1) (by decide) (lst_lt m d L hpre 1)) $$ [Hx1 Hr1 Hl1 Hg1]
  · isplitl [Hx1]; · iexact Hx1
    isplitl [Hr1]; · iexact Hr1
    isplitl [Hl1]; · iexact Hl1
    iexact Hg1
  iintro Hf1
  sl_exec
  iapply (SparseCore.wp_indirectGatherLocal countersEmb 𝒱₀ (thr d L) none (hg := gathers_S100000x128_S128x128) (default : HIx 1)
      (rK 2).view.dmaCredit (rowCredit 2) (by decide) (lst_lt m d L hpre 2)) $$ [Hx2 Hr2 Hl2 Hg2]
  · isplitl [Hx2]; · iexact Hx2
    isplitl [Hr2]; · iexact Hr2
    isplitl [Hl2]; · iexact Hl2
    iexact Hg2
  iintro Hf2
  sl_exec
  iapply (SparseCore.wp_indirectGatherLocal countersEmb 𝒱₀ (thr d L) none (hg := gathers_S100000x128_S128x128) (default : HIx 1)
      (rK 3).view.dmaCredit (rowCredit 3) (by decide) (lst_lt m d L hpre 3)) $$ [Hx3 Hr3 Hl3 Hg3]
  · isplitl [Hx3]; · iexact Hx3
    isplitl [Hr3]; · iexact Hr3
    isplitl [Hl3]; · iexact Hl3
    iexact Hg3
  iintro Hf3
  sl_exec
  -- each gather awaited, its chunk copied out
  imod (Transfers.batch_alloc' countersEmb (thr d L) (default : HIx 1) (oK L 0).view.dmaCredit (delivered m d L) (sm := .dma cc0_scratch6.sem) (E := Set.univ)) $$ Hcp with HB
  iapply (Transfers.wp_waitLocalO countersEmb 𝒱₀ (thr d L) none (default : HIx 1) (rfl : (rK 0).view.dmaCredit = _)) $$ [Hf0 HO]
  · isplitl [Hf0]; · iexact Hf0
    isplitl [HO]; · iexact HO
    iapply (Transfers.MayWaits.elim (SemLoc.dma (semOf 0))) $$ Hmw
  iintro ⟨⟨Hr0, Hx0, Hl0⟩, Hg0, HO⟩
  ihave Hr0 := (landed m d L hpre 0 _) $$ Hr0
  sl_exec
  iapply (Transfers.wp_dmaBatch countersEmb 𝒱₀ (thr d L) none (src := rK 0) (dst := oK L 0) (Sd := (oK L 0).view.set) (via := .same) (sm := .dma cc0_scratch6.sem)
      (D := delivered m d L) (j := 0) (u := 0) (default : HIx 1) (oK L 0).view.dmaCredit rfl (Finset.Subset.refl _) (by decide) (Nat.zero_le _) (deliver m d L 0 _ _)) $$ [Hr0 Ho0 HB]
  · isplitl [Hr0]; · iexact Hr0
    isplitl [Ho0]; · iexact Ho0
    iexact HB
  iintro HB
  sl_exec
  iapply (Transfers.wp_waitLocalO countersEmb 𝒱₀ (thr d L) none (default : HIx 1) (rfl : (rK 1).view.dmaCredit = _)) $$ [Hf1 HO]
  · isplitl [Hf1]; · iexact Hf1
    isplitl [HO]; · iexact HO
    iapply (Transfers.MayWaits.elim (SemLoc.dma (semOf 1))) $$ Hmw
  iintro ⟨⟨Hr1, Hx1, Hl1⟩, Hg1, HO⟩
  ihave Hr1 := (landed m d L hpre 1 _) $$ Hr1
  sl_exec
  iapply (Transfers.wp_dmaBatch countersEmb 𝒱₀ (thr d L) none (src := rK 1) (dst := oK L 1) (Sd := (oK L 1).view.set) (via := .same) (sm := .dma cc0_scratch6.sem)
      (D := delivered m d L) (j := 1) (u := 0) (default : HIx 1) (oK L 0).view.dmaCredit rfl (Finset.Subset.refl _) (by decide) (Nat.zero_le _) (deliver m d L 1 _ _)) $$ [Hr1 Ho1 HB]
  · isplitl [Hr1]; · iexact Hr1
    isplitl [Ho1]; · iexact Ho1
    iexact HB
  iintro HB
  sl_exec
  iapply (Transfers.wp_waitLocalO countersEmb 𝒱₀ (thr d L) none (default : HIx 1) (rfl : (rK 2).view.dmaCredit = _)) $$ [Hf2 HO]
  · isplitl [Hf2]; · iexact Hf2
    isplitl [HO]; · iexact HO
    iapply (Transfers.MayWaits.elim (SemLoc.dma (semOf 2))) $$ Hmw
  iintro ⟨⟨Hr2, Hx2, Hl2⟩, Hg2, HO⟩
  ihave Hr2 := (landed m d L hpre 2 _) $$ Hr2
  sl_exec
  iapply (Transfers.wp_dmaBatch countersEmb 𝒱₀ (thr d L) none (src := rK 2) (dst := oK L 2) (Sd := (oK L 2).view.set) (via := .same) (sm := .dma cc0_scratch6.sem)
      (D := delivered m d L) (j := 2) (u := 0) (default : HIx 1) (oK L 0).view.dmaCredit rfl (Finset.Subset.refl _) (by decide) (Nat.zero_le _) (deliver m d L 2 _ _)) $$ [Hr2 Ho2 HB]
  · isplitl [Hr2]; · iexact Hr2
    isplitl [Ho2]; · iexact Ho2
    iexact HB
  iintro HB
  sl_exec
  iapply (Transfers.wp_waitLocalO countersEmb 𝒱₀ (thr d L) none (default : HIx 1) (rfl : (rK 3).view.dmaCredit = _)) $$ [Hf3 HO]
  · isplitl [Hf3]; · iexact Hf3
    isplitl [HO]; · iexact HO
    iapply (Transfers.MayWaits.elim (SemLoc.dma (semOf 3))) $$ Hmw
  iintro ⟨⟨Hr3, Hx3, Hl3⟩, Hg3, HO⟩
  ihave Hr3 := (landed m d L hpre 3 _) $$ Hr3
  sl_exec
  iapply (Transfers.wp_dmaBatch countersEmb 𝒱₀ (thr d L) none (src := rK 3) (dst := oK L 3) (Sd := (oK L 3).view.set) (via := .same) (sm := .dma cc0_scratch6.sem)
      (D := delivered m d L) (j := 3) (u := 0) (default : HIx 1) (oK L 0).view.dmaCredit rfl (Finset.Subset.refl _) (by decide) (Nat.zero_le _) (deliver m d L 3 _ _)) $$ [Hr3 Ho3 HB]
  · isplitl [Hr3]; · iexact Hr3
    isplitl [Ho3]; · iexact Ho3
    iexact HB
  iintro HB
  sl_exec
  sl_step
  -- the buffers joined again
  isplitl [Hi Hx0 Hx1 Hx2 Hx3 HB_dst0 HB_dst1 HB_dst2 HB_dst3]
  · isplitl [Hi]; · iexact Hi
    isplitl [Hx0 Hx1 Hx2 Hx3]
    · isplitl [Hx0]; · iexact Hx0
      isplitl [Hx1]; · iexact Hx1
      isplitl [Hx2]; · iexact Hx2
      iexact Hx3
    isplitl [HB_dst0]; · iexact HB_dst0
    isplitl [HB_dst1]; · iexact HB_dst1
    isplitl [HB_dst2]; · iexact HB_dst2
    iexact HB_dst3
  isplitl [Hl0 Hl1 Hl2 Hl3 HB_src0 HB_src1 HB_src2 HB_src3 Hbufs]
  · isplitl [Hl0 Hl1 Hl2 Hl3]
    · iexists (lst m d L)
      iapply (Entails.of_eq ((lPts_four d L (lst m d L)).trans (four _)).symm)
      isplitl [Hl0]; · iexact Hl0
      isplitl [Hl1]; · iexact Hl1
      isplitl [Hl2]; · iexact Hl2
      iexact Hl3
    isplitr [Hbufs]
    · iapply (rPts_join d L)
      iapply (Entails.of_eq (four (fun c : Fin 4 => rSome (F := F) d L c)).symm)
      isplitl [HB_src0]; · iexact HB_src0
      isplitl [HB_src1]; · iexact HB_src1
      isplitl [HB_src2]; · iexact HB_src2
      iexact HB_src3
    iexact Hbufs
  isplitl [Hg0 Hg1 Hg2 Hg3 HB Hft Hsems]
  · isplitr [Hsems]
    · isplitl [Hg0]; · iexact Hg0
      isplitl [Hg1]; · iexact Hg1
      isplitl [Hg2]; · iexact Hg2
      isplitl [Hg3]; · iexact Hg3
      isplitl [HB]; · iexact HB
      iexact Hft
    iexact Hsems
  iexists _; isplitr
  swap; · iexact HO
  ipureintro; intro p hp
  simp only [Finset.mem_insert] at hp
  rcases hp with hp | hp | hp | hp | hp | hp | hp | hp | hp | hp
  all_goals first | exact .inl hp | exact .inr (hp ▸ rfl)

end Tile

end Cert.Proof.KernelIdealRun

end
-- ==== Proof.KernelIdeal.Call.lean ====
/-
  The gather call: what its handshakes carry, each task's obligation, the tiles' resources split over the subcores and
  joined again. The call takes the index list, the table and the result whole and gives them back with the result at
  the gathered rows.
-/
module

public import proofs.«01_k».proof.Proof.KernelIdeal.Task

@[expose] public section

noncomputable section

namespace Cert.Proof.KernelIdealRun

open Cert.KernelIdeal Cert.KernelIdeal.Gen
open Idealize.ShloMosaic
open Idealize.ShloMosaic.ValueIdx (ix1 ix2 eq_ix1 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

theorem nCore_eq : (K (F := F)).nCore 0 = 2 := rfl
theorem nSub_eq : (K (F := F)).nSub 0 = 16 := rfl

/-- The tile of subcore `i` of SparseCore `c`. -/
abbrev tk (c : Fin 2) (i : Fin 16) : Fin 32 := ⟨2 * i.val + c.val, by omega⟩

/-! ## What the handshakes carry -/

/-- SparseCore `c` takes its sixteen tiles' resources, each task its own tile's; back they come with the result's chunks
    at the gathered rows. -/
def P : (K (F := F)).Pay (nD := nD) (Val := Elt F) (Name := ℕ) (U := UU) where
  st := fun q d c => match q with | 0 => bigSep Finset.univ fun i : Fin ((K (F := F)).nSub 0) => tileRes m d (m (oLoc d)) (tk (Fin.cast nCore_eq c) (Fin.cast nSub_eq i))
  dn := fun q d c => match q with | 0 => bigSep Finset.univ fun i : Fin ((K (F := F)).nSub 0) => tileRes m d (G m d) (tk (Fin.cast nCore_eq c) (Fin.cast nSub_eq i))
  go := fun q d c i => match q with | 0 => tileRes m d (m (oLoc d)) (tk (Fin.cast nCore_eq c) (Fin.cast nSub_eq i))
  td := fun q d c i => match q with | 0 => tileRes m d (G m d) (tk (Fin.cast nCore_eq c) (Fin.cast nSub_eq i))
  x := fun _ _ => iprop(emp)

instance tileRes_storable (d : Dev nD) (f : Buf (Elt F) (oLoc d)) (k : Fin 32) : BI.Storable (upEmb : UEmb _ 𝕄) (tileRes m d f k) := inferInstance

instance P_storable : (P (F := F) m).IsStorable where
  st q d c := match q with
    | 0 => (inferInstance : BI.Storable (upEmb : UEmb _ 𝕄) (bigSep Finset.univ fun i : Fin ((K (F := F)).nSub 0) => tileRes m d (m (oLoc d)) (tk (Fin.cast nCore_eq c) (Fin.cast nSub_eq i))))
  dn q d c := match q with
    | 0 => (inferInstance : BI.Storable (upEmb : UEmb _ 𝕄) (bigSep Finset.univ fun i : Fin ((K (F := F)).nSub 0) => tileRes m d (G m d) (tk (Fin.cast nCore_eq c) (Fin.cast nSub_eq i))))
  go q d c i := match q with
    | 0 => tileRes_storable m d (m (oLoc d)) (tk (Fin.cast nCore_eq c) (Fin.cast nSub_eq i))
  td q d c i := match q with
    | 0 => tileRes_storable m d (G m d) (tk (Fin.cast nCore_eq c) (Fin.cast nSub_eq i))

/-! ## The tasks' obligation -/

def coordsOf (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0_gather_kernel (coordsOf c s)
          xV (Memref.isWhole_whole _) iV (Memref.isWhole_whole _) oV (Memref.isWhole_whole _) sV (Memref.isWhole_whole _) rV (Memref.isWhole_whole _)
          cc0_scratch2 cc0_scratch3 cc0_scratch4 cc0_scratch5 cc0_scratch6 cc0_scoped0) ⟨⟩ c s := rfl

theorem weaken_waits {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr; · ipureintro; exact fun p hp => (hW' p hp).imp_right Or.inl
  iexact HO

set_option maxRecDepth 16384 in
/-- Every task of the call meets its obligation. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body m d (coordsOf ⟨_, hci.1⟩ ⟨_, hci.2⟩) hF hpre O W hO).trans (wp_mono frame _ _ fun _ => weaken_waits)

/-- A SparseCore's resources are its tasks'. -/
theorem vecSplit : (K (F := F)).VecSplit' (P m) 0 := by
  intro d c
  rw [show (P m).st 0 d c = bigSep Finset.univ fun i => (P m).go 0 d c i from rfl, show (P m).dn 0 d c = bigSep Finset.univ fun i => (P m).td 0 d c i from rfl]
  iintro H; imodintro
  isplitl [H]; · iexact H
  iintro H; iexact H

/-! ## The whole buffers over the SparseCores -/

theorem tk_equiv (Φ : Fin 32 → sProp 𝕄) :
    (bigSep Finset.univ fun c : Fin ((K (F := F)).nCore 0) => bigSep Finset.univ fun i : Fin ((K (F := F)).nSub 0) => Φ (tk (Fin.cast nCore_eq c) (Fin.cast nSub_eq i)))
      = bigSep Finset.univ Φ := by
  rw [bigSep_univ_equiv ((Equiv.prodComm (Fin 2) (Fin 16)).trans (finProdFinEquiv (m := 16) (n := 2))) Φ,
    bigSep_univ_prod]
  refine bigSep_congr fun c _ => bigSep_congr fun i _ => congrArg Φ (Fin.ext ?_)
  show 2 * i.val + c.val = c.val + 2 * i.val
  omega

/-- The list, the table and the result, whole, the result at `f`. -/
abbrev wholeRes (d : Dev nD) (f : Buf (Elt F) (oLoc d)) : sProp 𝕄 :=
  iprop((iLoc d ↦{fullShare} m (iLoc d)) ∗ (xLoc d ↦{fullShare} m (xLoc d)) ∗ oLoc d ↦{fullShare} f)

theorem tiles_eq (d : Dev nD) (f : Buf (Elt F) (oLoc d)) : (bigSep Finset.univ fun k : Fin 32 => (tileRes m d f k : sProp 𝕄)) = wholeRes m d f := by
  unfold wholeRes
  rw [iPts_tiles, xPts_tiles, oPts_tiles, bigSep_sep', bigSep_sep']

/-- What the call takes, -/
theorem st_eq (d : Dev nD) : (bigSep Finset.univ fun c : Fin ((K (F := F)).nCore 0) => (P m).st 0 d c) = wholeRes m d (m (oLoc d)) :=
  (tk_equiv (tileRes m d (m (oLoc d)))).trans (tiles_eq m d _)
/-- and what it gives back. -/
theorem dn_eq (d : Dev nD) : (bigSep Finset.univ fun c : Fin ((K (F := F)).nCore 0) => (P m).dn 0 d c) = wholeRes m d (G m d) :=
  (tk_equiv (tileRes m d (G m d))).trans (tiles_eq m d _)

end Cert.Proof.KernelIdealRun

end
-- ==== Proof.KernelIdeal.Region.lean ====
/-
  The dense call: what its body leaves in the result's staging buffer at a grid point, the proof data of the sixteen
  points from any contents of the device's buffers, and the contents the result's array ends at.
-/
module

public import proofs.«01_k».proof.Proof.KernelIdeal.Call
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Value

@[expose] public section

noncomputable section

namespace Cert.Proof.KernelIdealRun

open Cert.KernelIdeal Cert.KernelIdeal.Gen
open Idealize.ShloMosaic Idealize.ShloMosaic.TcCoe
open Idealize.ShloMosaic.ValueIdx (ix1 ix2 eq_ix1 eq_ix2)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## The body at one point -/

/-- A load through the whole shape's box at the origin reads what the memref holds. -/
theorem readAt_origin {κ : Kind} {sp : Space} {s : Shape} {e : EltTy} (v : View sig κ sp s e) (f : v.ty.Contents (Elt F))
    (off : Fin s.rank → ℕ) (h : ∀ a, off a + s.size a ≤ s.size a) (h0 : ∀ a, off a = 0) :
    v.readAt (Elt F) (Rect.unit off s.size h).toLoadRect f = v.read (Elt F) f := by
  funext j
  show v.read (Elt F) f ((Rect.unit off s.size h).idx j) = _
  congr 1
  funext a
  refine Fin.ext ?_
  show off a + 1 * (j a : ℕ) = j a
  rw [h0]; omega

/-- The box at the origin has every index. -/
theorem mem_origin {s : Shape} (off : Fin s.rank → ℕ) (h : ∀ a, off a + s.size a ≤ s.size a) (h0 : ∀ a, off a = 0) (j : s.Idx) :
    (Rect.unit off s.size h).emb j = j := by
  funext a
  refine Fin.ext ?_
  show off a + 1 * (j a : ℕ) = j a
  rw [h0]; omega

variable (c : Dev nD)

/-- A memref held through its own elements. -/
abbrev pts {sp : Space} {s : Shape} {e : EltTy} (M : Memref sig .tc sp s e) (f : Buf (Elt F) (M.view.loc (c.tc : Thread nD τ))) : sProp 𝕄 :=
  M.view.loc (c.tc : Thread nD τ) ↦[M.view.set]{fullShare} f

/-- The body, from its six staging buffers, leaves the five it reads as they were and the result's at the payload of
    what they hold. -/
theorem body_run (i : grid1.Coords)
    (M1 : Memref sig .tc .vmem S1024x128 .f32) (h1 : M1.IsWhole) (M2 : Memref sig .tc .vmem S2048x128 .f32) (h2 : M2.IsWhole)
    (M3 : Memref sig .tc .vmem S1x2048 .f32) (h3 : M3.IsWhole) (M4 : Memref sig .tc .vmem S1024x2048 .f32) (h4 : M4.IsWhole)
    (M5 : Memref sig .tc .vmem S1x1024 .f32) (h5 : M5.IsWhole) (M6 : Memref sig .tc .vmem S1024x1024 .f32) (h6 : M6.IsWhole)
    (f1 : Buf (Elt F) (M1.view.loc (c.tc : Thread nD τ))) (f2 : Buf (Elt F) (M2.view.loc (c.tc : Thread nD τ)))
    (f3 : Buf (Elt F) (M3.view.loc (c.tc : Thread nD τ))) (f4 : Buf (Elt F) (M4.view.loc (c.tc : Thread nD τ)))
    (f5 : Buf (Elt F) (M5.view.loc (c.tc : Thread nD τ))) (f6 : Buf (Elt F) (M6.view.loc (c.tc : Thread nD τ)))
    (Q : PUnit → sProp 𝕄) :
    iprop(pts c M1 f1 ∗ pts c M2 f2 ∗ pts c M3 f3 ∗ pts c M4 f4 ∗ pts c M5 f5 ∗ pts c M6 f6
      ∗ (iprop(pts c M1 f1 ∗ pts c M2 f2 ∗ pts c M3 f3 ∗ pts c M4 f4 ∗ pts c M5 f5
          ∗ ∃ f, ⌜M6.view.read (Elt F) f = k1_pay1 (M1.view.read (Elt F) f1) (M2.view.read (Elt F) f2) (M3.view.read (Elt F) f3) (M4.view.read (Elt F) f4) (M5.view.read (Elt F) f5)⌝ ∗ pts c M6 f) -∗ Q ⟨⟩))
      ⊢ wp frame (wpE (defs₀ (F := F)) Variants.none (c.tc : Thread nD τ) none) Set.univ (cc1__mlp_body i M1 h1 M2 h2 M3 h3 M4 h4 M5 h5 M6 h6) Q := by
  simp only [cc1__mlp_body_eq_skeleton]; unfold cc1__mlp_body_skel
  iintro ⟨H1, H2, H3, H4, H5, H6, Hk⟩
  sl_exec!
  sl_step
  iapply Hk
  isplitl [H1]; · iexact H1
  isplitl [H2]; · iexact H2
  isplitl [H3]; · iexact H3
  isplitl [H4]; · iexact H4
  isplitl [H5]; · iexact H5
  iexists _; isplitr; swap; · iexact H6
  ipureintro
  rw [View.read_writes_junk_eq_canon]
  unfold body_run.sl.H6_1
  funext j
  rw [← mem_origin ![0, 0] inb_S1024x1024_S1024x1024_0_0 (fun a => by fin_cases a <;> rfl) j, View.canon_cons_emb]
  rw [mem_origin ![0, 0] inb_S1024x1024_S1024x1024_0_0 (fun a => by fin_cases a <;> rfl) j]
  refine congrFun ?_ j
  dsimp only
  rw [readAt_origin M1.view f1 ![0, 0] _ (fun a => by fin_cases a <;> rfl), readAt_origin M2.view f2 ![0, 0] _ (fun a => by fin_cases a <;> rfl),
    readAt_origin M3.view f3 ![0, 0] _ (fun a => by fin_cases a <;> rfl), readAt_origin M4.view f4 ![0, 0] _ (fun a => by fin_cases a <;> rfl),
    readAt_origin M5.view f5 ![0, 0] _ (fun a => by fin_cases a <;> rfl)]

/-! ## The proof data -/

variable (V : (d : Dev nD) → (b : Ref sig .tc) → Buf (Elt F) ((d.tc : Thread nD τ).loc b))

/-- The block of window `w` at a point: the window's array read through it. -/
abbrev block (w : Fin 6) (t : Fin cfg1.N) : ((cfg1.win w).xblock (cfg1.grid.coords t)).Idx → Elt F (cfg1.win w).elt :=
  ((cfg1.win w).blk t).view.read (Elt F) (V c (Pipeline.arrRef spec1 w))

/-- What the body leaves in the result's staging buffer at a point. -/
abbrev outAt (t : Fin cfg1.N) : S1024x1024.Idx → F .f32 :=
  k1_pay1 (F := F) (block c V 0 t) (block c V 1 t) (block c V 2 t) (block c V 3 t) (block c V 4 t)

/-- What the core has recorded of its waits by the time the region runs: nothing above the gather call's levels. -/
abbrev waited (d : Dev nD) : Set (SemLoc sig × HIx 1) := {p | (K (F := F)).lev ((d.tc : Thread nD τ), p.1) p.2 ≤ 8}

/-- The region's proof data from the contents `V`: the five inputs stay as fetched, the result's block is the
    payload of theirs; nothing beside the windows is used and nothing is owed. -/
def dat (d : Dev nD) : Dat τ (Elt F) (HIx 1) ℕ UU ℕ cfg1 d where
  A w := V d (Pipeline.arrRef spec1 w)
  after w t := match w with
    | ⟨0, _⟩ => block d V 0 t
    | ⟨1, _⟩ => block d V 1 t
    | ⟨2, _⟩ => block d V 2 t
    | ⟨3, _⟩ => block d V 3 t
    | ⟨4, _⟩ => block d V 4 t
    | ⟨5, _⟩ => outAt d V t
  Φ _ := iprop(emp)
  q _ := fullShare
  owed _ := 0
  recorded _ := waited (F := F) d

theorem before0 (t : Fin cfg1.N) (d) : (dat V c).before 0 t d = block c V 0 t :=
  ((dat V c).before_in_eq_fetched 0 rfl (fun _ => rfl) (fun _ _ _ => rfl) (fun _ => by dsimp only [dat]; rfl) t d).trans (by unfold Dat.fetched Dat.blockOf; dsimp only [dat]; rfl)
theorem before1 (t : Fin cfg1.N) (d) : (dat V c).before 1 t d = block c V 1 t :=
  ((dat V c).before_in_eq_fetched 1 rfl (fun _ => rfl) (fun _ _ _ => rfl) (fun _ => by dsimp only [dat]; rfl) t d).trans (by unfold Dat.fetched Dat.blockOf; dsimp only [dat]; rfl)
theorem before2 (t : Fin cfg1.N) (d) : (dat V c).before 2 t d = block c V 2 t :=
  ((dat V c).before_in_eq_fetched 2 rfl (fun _ => rfl) (fun _ _ _ => rfl) (fun _ => by dsimp only [dat]; rfl) t d).trans (by unfold Dat.fetched Dat.blockOf; dsimp only [dat]; rfl)
theorem before3 (t : Fin cfg1.N) (d) : (dat V c).before 3 t d = block c V 3 t :=
  ((dat V c).before_in_eq_fetched 3 rfl (fun _ => rfl) (fun _ _ _ => rfl) (fun _ => by dsimp only [dat]; rfl) t d).trans (by unfold Dat.fetched Dat.blockOf; dsimp only [dat]; rfl)
theorem before4 (t : Fin cfg1.N) (d) : (dat V c).before 4 t d = block c V 4 t :=
  ((dat V c).before_in_eq_fetched 4 rfl (fun _ => rfl) (fun _ _ _ => rfl) (fun _ => by dsimp only [dat]; rfl) t d).trans (by unfold Dat.fetched Dat.blockOf; dsimp only [dat]; rfl)

/-- At every point the body, from the windows' buffers as the pipeline hands them, leaves them as the proof data
    says. -/
theorem body_obligation : BodyObligation (dat V c) (defs₀ (F := F)) Variants.none (none : HIx 1) Set.univ := fun t => by
  rw [bigSep_W1, bigSep_W1]
  unfold owns
  rw [show (dat V c).Φ t.castSucc = iprop(emp) from rfl, show (dat V c).Φ t.succ = iprop(emp) from rfl,
    show (dat V c).owesAt (none : HIx 1) t.succ = (dat V c).owesAt (none : HIx 1) t.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before0] at hf0; rw [before1] at hf1; rw [before2] at hf2; rw [before3] at hf3; rw [before4] at hf4
  iapply (body_run c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5)) f0 f1 f2 f3 f4 f5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, %f, %hf, H5⟩
  rw [hf0, hf1, hf2, hf3, hf4] at hf
  isplitl [HΦ]; · iexact HΦ
  isplitl [Howes]; · iexact Howes
  isplitl [H0]; · iexists _; isplitr; swap; (· iexact H0); ipureintro; dsimp only [dat]; exact hf0
  isplitl [H1]; · iexists _; isplitr; swap; (· iexact H1); ipureintro; dsimp only [dat]; exact hf1
  isplitl [H2]; · iexists _; isplitr; swap; (· iexact H2); ipureintro; dsimp only [dat]; exact hf2
  isplitl [H3]; · iexists _; isplitr; swap; (· iexact H3); ipureintro; dsimp only [dat]; exact hf3
  isplitl [H4]; · iexists _; isplitr; swap; (· iexact H4); ipureintro; dsimp only [dat]; exact hf4
  iexists _; isplitr; swap; (· iexact H5); ipureintro; dsimp only [dat]; exact hf

/-! ## The result's array -/

/-- Thousand-row block `t` of the rows `x`. -/
def rowsOf (x : S16384x128.Idx → F .f32) (t : Fin 16) : S1024x128.Idx → F .f32 :=
  fun i => x (ix2 (⟨1024 * t.val + (i 0).val, by have h : (i 0).val < 1024 := (i 0).isLt; omega⟩ : Fin 16384) (i 1))

/-- What the dense call computes: each block of rows by the payload, the weights and biases whole. -/
def dense (x : S16384x128.Idx → F .f32) (w1 : S2048x128.Idx → F .f32) (b1 : S1x2048.Idx → F .f32) (w2 : S1024x2048.Idx → F .f32)
    (b2 : S1x1024.Idx → F .f32) : S16384x1024.Idx → F .f32 :=
  fun j => k1_pay1 (F := F) (rowsOf x ⟨(j 0).val / 1024, by have h : (j 0).val < 16384 := (j 0).isLt; omega⟩) w1 b1 w2 b2
    (ix2 (⟨(j 0).val % 1024, Nat.mod_lt _ (by decide)⟩ : Fin 1024) (j 1))

theorem coords_val : ∀ t : Fin grid1.N, (grid1.coords t 0).val = t.val := by decide

theorem index0 (t : Fin cfg1.N) : (cfg1.win 0).index t 0 = t.val ∧ (cfg1.win 0).index t 1 = 0 := by
  revert t; decide
theorem index5 (t : Fin cfg1.N) : (cfg1.win 5).index t 0 = t.val ∧ (cfg1.win 5).index t 1 = 0 := by
  revert t; decide

/-- The point as a block number. -/
abbrev pt (t : Fin cfg1.N) : Fin 16 := ⟨t.val, by have h := t.isLt; have := N_1; exact this ▸ h⟩

theorem block0 (t : Fin cfg1.N) : block c V 0 t = rowsOf (V c main_v0) (pt t) := by
  funext y
  have e0 : (((cfg1.win 0).rect t).emb y 0).val = t.val * 1024 + (y 0).val := by
    refine (Pipeline.Window.rect_emb_val (cfg1.win 0) t y 0 rfl).trans ?_; rw [(index0 t).1]; rfl
  have e1 : (((cfg1.win 0).rect t).emb y 1).val = (y 1).val := by
    refine (Pipeline.Window.rect_emb_val (cfg1.win 0) t y 1 rfl).trans ?_; rw [(index0 t).2]; show 0 * 128 + (y 1).val = (y 1).val; omega
  have hy : (y 0).val < 1024 := (y 0).isLt
  have ht : t.val < 16 := (pt t).isLt
  have h : (((cfg1.win 0).rect t).emb y : S16384x128.Idx) = ix2 (⟨1024 * t.val + (y 0).val, by omega⟩ : Fin 16384) (y 1 : Fin 128) := by
    funext a
    match a with
    | ⟨0, _⟩ => exact Fin.ext (by exact e0.trans (by show t.val * 1024 + _ = 1024 * t.val + _; omega))
    | ⟨1, _⟩ => exact Fin.ext e1
  exact congrArg (V c main_v0) h

theorem block1 (t : Fin cfg1.N) : block c V 1 t = V c main_arg3 := by
  funext y
  exact congrArg (V c main_arg3) (funext fun a => Fin.ext (Pipeline.Window.rect_emb_val_of_index_zero (cfg1.win 1) t a (by fin_cases a <;> rfl) y))
theorem block2 (t : Fin cfg1.N) : block c V 2 t = V c main_v4 := by
  funext y
  exact congrArg (V c main_v4) (funext fun a => Fin.ext (Pipeline.Window.rect_emb_val_of_index_zero (cfg1.win 2) t a (by fin_cases a <;> rfl) y))
theorem block3 (t : Fin cfg1.N) : block c V 3 t = V c main_v1 := by
  funext y
  exact congrArg (V c main_v1) (funext fun a => Fin.ext (Pipeline.Window.rect_emb_val_of_index_zero (cfg1.win 3) t a (by fin_cases a <;> rfl) y))
theorem block4 (t : Fin cfg1.N) : block c V 4 t = V c main_v3 := by
  funext y
  exact congrArg (V c main_v3) (funext fun a => Fin.ext (Pipeline.Window.rect_emb_val_of_index_zero (cfg1.win 4) t a (by fin_cases a <;> rfl) y))

/-- What the region leaves the result's array at, from the contents `V`. -/
abbrev denseOf : Buf (Elt F) ((c.tc : Thread nD τ).loc main_v5) :=
  dense (F := F) (V c main_v0) (V c main_arg3) (V c main_v4) (V c main_v1) (V c main_v3)

theorem outAt_eq (t : Fin cfg1.N) (y : S1024x1024.Idx) : outAt c V t y = denseOf c V (((cfg1.win 5).rect t).emb y) := by
  have e0 : (((cfg1.win 5).rect t).emb y 0).val = t.val * 1024 + (y 0).val := by
    refine (Pipeline.Window.rect_emb_val (cfg1.win 5) t y 0 rfl).trans ?_; rw [(index5 t).1]; rfl
  have e1 : (((cfg1.win 5).rect t).emb y 1).val = (y 1).val := by
    refine (Pipeline.Window.rect_emb_val (cfg1.win 5) t y 1 rfl).trans ?_; rw [(index5 t).2]; show 0 * 1024 + (y 1).val = (y 1).val; omega
  have hy : (y 0).val < 1024 := (y 0).isLt
  unfold outAt denseOf dense
  rw [block0, block1, block2, block3, block4]
  have p0 : (⟨(((cfg1.win 5).rect t).emb y 0).val / 1024, by rw [e0]; have := (pt t).isLt; show _ < 16; dsimp only at this; omega⟩ : Fin 16) = pt t :=
    Fin.ext (by show _ / 1024 = t.val; rw [e0]; omega)
  have p1 : (ix2 (⟨(((cfg1.win 5).rect t).emb y 0).val % 1024, Nat.mod_lt _ (by decide)⟩ : Fin 1024) (((cfg1.win 5).rect t).emb y 1) : S1024x1024.Idx) = y := by
    funext a
    match a with
    | ⟨0, _⟩ => exact Fin.ext (by show _ % 1024 = (y 0).val; rw [e0]; omega)
    | ⟨1, _⟩ => exact Fin.ext e1
  rw [p0]; exact congrArg _ p1.symm

theorem arr_out : (dat V c).arrAt 5 cfg1.N = denseOf c V := by
  refine (dat V c).arrAt_eq_of_cover 5 (denseOf c V) (fun t _ => ?_) (fun i => ?_)
  · funext y
    exact outAt_eq c V t y
  · have hi : (i 0).val < 16384 := (i 0).isLt
    obtain ⟨t, ht⟩ : ∃ t : Fin cfg1.N, t.val = (i 0).val / 1024 := ⟨⟨(i 0).val / 1024, by rw [show cfg1.N = 16 from N_1]; omega⟩, rfl⟩
    refine ⟨t, flush1_5 _, ?_⟩
    have e : i = ((cfg1.win 5).blk t).view.emb (ix2 (⟨(i 0).val % 1024, Nat.mod_lt _ (by decide)⟩ : Fin 1024) (i 1) : S1024x1024.Idx) := by
      funext a
      match a with
      | ⟨0, _⟩ =>
        refine Fin.ext ?_
        refine Eq.trans ?_ (Pipeline.Window.rect_emb_val (cfg1.win 5) t (ix2 (⟨(i 0).val % 1024, Nat.mod_lt _ (by decide)⟩ : Fin 1024) (i 1) : S1024x1024.Idx) 0 rfl).symm
        rw [(index5 t).1, ht]
        show (i 0).val = (i 0).val / 1024 * 1024 + (i 0).val % 1024
        omega
      | ⟨1, _⟩ =>
        refine Fin.ext ?_
        refine Eq.trans ?_ (Pipeline.Window.rect_emb_val (cfg1.win 5) t (ix2 (⟨(i 0).val % 1024, Nat.mod_lt _ (by decide)⟩ : Fin 1024) (i 1) : S1024x1024.Idx) 1 rfl).symm
        rw [(index5 t).2]
        show (i 1).val = 0 * 1024 + (i 1).val
        omega
    rw [e]
    exact View.emb_mem_set _ _

end Cert.Proof.KernelIdealRun

end
-- ==== Proof.KernelIdeal.Entry.lean ====
/-
  The dense call as one step of @main: entered from every unscoped buffer of the device at some contents, left with
  the result's array at `denseOf` of them and every other buffer as it was.
-/
module

public import proofs.«01_k».proof.Proof.KernelIdeal.Region
public import Idealize.ShloMosaic.Lib.Pipeline.RegionsLoop
public import Idealize.ShloMosaic.Lib.Pipeline.RegionArrays

@[expose] public section

noncomputable section

namespace Cert.Proof.KernelIdealRun

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-- The program's one pipeline reads no table ahead. -/
abbrev adm : (p : Fin 1) → (pcfgs (F := F) p).Adm := fun p => (cfgs p).toPCfg_adm

variable (V : (d : Dev nD) → (b : Ref sig .tc) → Buf (Elt F) ((d.tc : Thread nD τ).loc b))

/-- The proof data of the program's one pipeline. -/
def pdats : (p : Fin 1) → (d : Dev nD) → Dat τ (Elt F) (HIx 1) ℕ UU ℕ (Pipeline.pin (pcfgs (F := F)) adm p) d
  | ⟨0, _⟩ => fun d => dat V d

/-- The contents the dense call leaves, from `V`. -/
def left (d : Dev nD) : (b : Ref sig .tc) → Buf (Elt F) ((d.tc : Thread nD τ).loc b) :=
  Function.update (V d) main_v5 (denseOf d V)

theorem left_out (d : Dev nD) : left V d main_v5 = denseOf d V := Function.update_self ..
theorem left_ne (d : Dev nD) {b : Ref sig .tc} (h : b ≠ main_v5) : left V d b = V d b := Function.update_of_ne h ..

/-- Each window's array ends at what the call leaves it. -/
theorem arr_left (d : Dev nD) (w : Fin 6) : (dat V d).arrAt w cfg1.N = left V d (Pipeline.arrRef spec1 w) := by
  match w with
  | ⟨0, _⟩ => exact ((dat V d).arrAt_in 0 rfl _).trans (left_ne V d (b := main_v0) (by decide)).symm
  | ⟨1, _⟩ => exact ((dat V d).arrAt_in 1 rfl _).trans (left_ne V d (b := main_arg3) (by decide)).symm
  | ⟨2, _⟩ => exact ((dat V d).arrAt_in 2 rfl _).trans (left_ne V d (b := main_v4) (by decide)).symm
  | ⟨3, _⟩ => exact ((dat V d).arrAt_in 3 rfl _).trans (left_ne V d (b := main_v1) (by decide)).symm
  | ⟨4, _⟩ => exact ((dat V d).arrAt_in 4 rfl _).trans (left_ne V d (b := main_v3) (by decide)).symm
  | ⟨5, _⟩ => exact (arr_out d V).trans (left_out V d).symm

/-- What a wait of the staging cells records is at the lowest level, so the record stays below the call's. -/
theorem bound_waited (d : Dev nD) (t : Fin (cfg1.N + 1)) : (dat V d).bound (none : HIx 1) t ⊆ waited (F := F) d := by
  rintro p (h | h)
  · exact h
  · obtain ⟨w, s, rfl⟩ := h
    exact Nat.zero_le _

set_option backward.isDefEq.respectTransparency.types false in
/-- The dense call between two thread states. -/
def reg : Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation d V).loose
  hwaits := Pipeline.hwaits_of_owed_zero _ _ _ _ (K (F := F)).L (K (F := F)).lev 0 fun _ _ => rfl
  pre d := iprop(unscopedBufs d (V d) ∗ Pipeline.owesWithin d 0 (waited (F := F) d))
  post d := iprop(unscopedBufs d (left V d) ∗ Pipeline.owesWithin d 0 (waited (F := F) d))
  X _ := BI.emp
  Y _ := BI.emp
  Z d := Pipeline.unscopedRest (Ix := HIx 1) (Name := ℕ) (U := UU) (Lvl := ℕ) spec1 d (V d)
  hentry d := by
    have harrays := Pipeline.arrays_of_unscopedBufs (p := 0) (pcfgs (F := F)) adm (pdats V) launch1.win launch1.arr_whole d
      ((pdats V 0 d).share_full fun _ => rfl) (V d) fun _ => rfl
    rw [Pipeline.ownSems0_none, Pipeline.prefHeld_of_none _ rfl]
    iintro ⟨⟨Hbufs, Howes⟩, -, -⟩
    ihave Hs := harrays $$ Hbufs
    icases Hs with ⟨Harr, Hrest⟩
    imodintro
    isplitl [Harr]; · iexact Harr
    isplitr; · iempintro
    isplitl [Howes]
    · unfold Pipeline.Dat.owesAt Pipeline.owesWithin
      icases Howes with ⟨%W, %hW, Ho⟩
      iexists W
      isplitr; · ipureintro; exact fun x hx => Or.inl (hW hx)
      iexact Ho
    isplitr; · iempintro
    iexact Hrest
  hin d := by
    rw [show (pdats V 0 d).Φ 0 = BI.emp from rfl]
    show iprop(_ ∗ _ ∗ Pipeline.scopedRest spec1 d) ⊢ _
    rw [scopedRest1_eq, Pipeline.prefHeld_of_none _ rfl]
    iintro -; iempintro
  hout d := by
    rw [show (pdats V 0 d).Φ (Fin.last _) = BI.emp from rfl, Pipeline.ownSems0_none]
    show _ ⊢ iprop(_ ∗ _ ∗ Pipeline.scopedRest spec1 d)
    rw [scopedRest1_eq]
    iintro -
    isplitr; · iempintro
    isplitr <;> iempintro
  hexit d := by
    have hback := Pipeline.unscopedBufs_of_arrays (p := 0) (pcfgs (F := F)) adm (Ix := HIx 1) (Name := ℕ) (U := UU) (Lvl := ℕ) launch1.win
      launch1.arr_whole d (pdats V) ((pdats V 0 d).share_full fun _ => rfl) (V d) (left V d) ((pdats V 0 d).arrAt · cfg1.N)
      (fun w => arr_left V d w)
      (fun b hb => left_ne V d fun h => hb (h ▸ Finset.mem_image.mpr ⟨5, Finset.mem_univ _, rfl⟩))
    iintro ⟨Harr, Howes, -, Hrest⟩
    imodintro
    isplitl [Harr Hrest]
    · iapply hback; isplitl [Harr] <;> iassumption
    unfold Pipeline.Dat.owesAt Pipeline.owesWithin
    icases Howes with ⟨%W, %hW, Ho⟩
    iexists W
    isplitr; · ipureintro; exact hW.trans (bound_waited V d _)
    iexact Ho

end Cert.Proof.KernelIdealRun

end
-- ==== Proof.KernelIdeal.Main.lean ====
/-
  @main on the TensorCore: the gather call, seven host operations that pad and reshape the weights, and the dense
  call; the contents every buffer of the device ends at; and the run of the whole program from any memory whose
  index words are below the table's height.
-/
module

public import proofs.«01_k».proof.Proof.KernelIdeal.Entry

@[expose] public section

noncomputable section

namespace Cert.Proof.KernelIdealRun

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The launch's ghost state -/

/-- Where the staging cells' rounds live: the left half of the pair on the right of the handshake's. -/
def EP : Emb UR 𝕄 := (Emb.inl : Emb UR (UR × Counters)).trans embR

instance EP_landsIn : (EP (F := F)).LandsIn (upEmb : UEmb _ 𝕄) := by
  unfold EP embR; infer_instance

/-- The handshake cells at their launch state, and the staging cells at theirs. -/
def u₀ : UU := (initOf (K (F := F)).hsCells (K (F := F)).hsToks,
  initOf (Pipeline.cells (nD := nD) (τ := τ) cfgs cellOf_inj) (Pipeline.launchToks cfgs cellOf_inj), 1)

/-- What a device's TensorCore is dealt for the dense call. -/
abbrev dealt (d : Dev nD) : sProp 𝕄 :=
  iprop(Pipeline.cellsGhost (Pipeline.pin (pcfgs (F := F)) adm) EP 0 d ∗ Pipeline.toksInit (Pipeline.pin (pcfgs (F := F)) adm) EP 0 d)

variable (m : (ℓ : Loc nD τ sig) → Buf (Elt F) ℓ) (ρ : Dev nD → PrngReg)

/-- One pipeline's resources on every device are all the pipelines'. -/
theorem only_one (Φ : Fin 1 → Dev nD → sProp 𝕄) :
    (bigSep Finset.univ fun d : Dev nD => Φ 0 d) = bigSep Finset.univ fun d : Dev nD => bigSep Finset.univ fun p : Fin 1 => Φ p d :=
  bigSep_congr fun d _ => (bigSep_univ_of_subsingleton (Φ := fun p : Fin 1 => Φ p d) (0 : Fin 1)).symm

/-- Nothing, dealt to everyone, is nothing. -/
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => dealt d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (nD := nD) (τ := τ) cfgs cellOf_inj) (Pipeline.launchToks cfgs cellOf_inj), 1) : UR × Counters)) $$ Hu
  icases H with ⟨HH, HR⟩
  ihave H := (own_pair_emb embR (initOf (Pipeline.cells (nD := nD) (τ := τ) cfgs cellOf_inj) (Pipeline.launchToks cfgs cellOf_inj) : UR) (1 : Counters)) $$ HR
  icases H with ⟨HP, -⟩
  ihave H := (show BI.own (((Emb.inl : Emb UR (UR × Counters)).trans embR : Emb UR 𝕄) (initOf (Pipeline.cells (nD := nD) (τ := τ) cfgs cellOf_inj) (Pipeline.launchToks cfgs cellOf_inj))) ⊢ _ from
    Pipeline.fund_ghost (Pipeline.pin (pcfgs (F := F)) adm) EP cellOf_inj) $$ HP
  imod H with ⟨Hg, Ht⟩
  imodintro
  isplitl [HH]; · iexact HH
  isplitl [Hg Ht]
  · rw [bigSep_sep' (Finset.univ : Finset (Dev nD)),
      only_one fun p d => Pipeline.cellsGhost (Pipeline.pin (pcfgs (F := F)) adm) EP p d,
      only_one fun p d => Pipeline.toksInit (Pipeline.pin (pcfgs (F := F)) adm) EP p d]
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The contents along @main -/

/-- The host operations between the two calls. -/
abbrev hostOps : List (HloOp τ sig (Elt F)) :=
  [StableHlo.nullary main_c (constantI S_ 32 0#32),
   StableHlo.TRef.unary (.of main_c : StableHlo.TRef sig ⟨S_, .i32⟩) main_call0.v0 (sitofp .f32),
   StableHlo.TRef.binary (.of main_arg5 : StableHlo.TRef sig ⟨S1000x2048, .f32⟩) main_call0.v0 main_call0.v1 (fun x v => pad S1024x2048 ![0, 0] ![24, 0] ![0, 0] x v pads_S1000x2048_S1024x2048_0240_000 h_S_),
   StableHlo.nullary main_c_0 (constantI S_ 32 0#32),
   StableHlo.TRef.unary (.of main_c_0 : StableHlo.TRef sig ⟨S_, .i32⟩) main_call1.v0 (sitofp .f32),
   StableHlo.TRef.binary (.of main_arg6 : StableHlo.TRef sig ⟨S1000, .f32⟩) main_call1.v0 main_call1.v1 (fun x v => pad S1024 ![0] ![24] ![0] x v pads_S1000_S1024_0240 h_S_),
   StableHlo.reshape main_v2 main_v3 (rfl : (.f32 : EltTy) = .f32) shapeCasts_S1024_S1x1024,
   StableHlo.reshape main_arg4 main_v4 (rfl : (.f32 : EltTy) = .f32) shapeCasts_S2048_S1x2048]

theorem main_eq (d : Dev nD) : main (F := F) d = (do
    sc.run d 0
    StableHlo.seq hostOps
    SparseCore.liftProg (.op (.customCall (Pipeline.entry 0) ()) .ret)) := by
  rfl

/-- After the gather call: the launch contents, the gathered rows in the call's result. -/
def V1 (d : Dev nD) : Valuation τ sig (Elt F) :=
  Function.update (StableHlo.launchContents m d) (Proc.devRef .tc main_v0) (G m d)
/-- After the host operations. -/
def V2 (d : Dev nD) : Valuation τ sig (Elt F) := StableHlo.after hostOps (V1 m d)
/-- The same by the core's references. -/
abbrev R2 (d : Dev nD) (b : Ref sig .tc) : Buf (Elt F) ((d.tc : Thread nD τ).loc b) := V2 m d b

/-- The list, the table and the gather call's result. -/
def callRefs : Finset (DevRef τ sig) := {Proc.devRef .tc main_arg0, Proc.devRef .tc main_arg2, Proc.devRef .tc main_v0}

theorem callRefs_sub : callRefs ⊆ Pipeline.ucRefs τ sig := by
  intro b hb
  simp only [callRefs, Finset.mem_insert, Finset.mem_singleton] at hb
  obtain rfl | rfl | rfl := hb <;> exact Finset.mem_filter.mpr ⟨StableHlo.devRef_mem_tcRefs _, by decide⟩

theorem held_callRefs (d : Dev nD) (W : Valuation τ sig (Elt F)) :
    (StableHlo.held (d.tc : Thread nD τ) callRefs W : sProp 𝕄)
      = iprop((iLoc d ↦{fullShare} W (Proc.devRef .tc main_arg0)) ∗ (xLoc d ↦{fullShare} W (Proc.devRef .tc main_arg2)) ∗ oLoc d ↦{fullShare} W (Proc.devRef .tc main_v0)) := by
  unfold StableHlo.held callRefs
  rw [SparseCore.bigSep_insert' (by decide), SparseCore.bigSep_insert' (by decide), bigSep_singleton]

/-- What is not the call's is as at the launch after it. -/
theorem held_rest (d : Dev nD) : (StableHlo.held (d.tc : Thread nD τ) (Pipeline.ucRefs τ sig \ callRefs) (V1 m d) : sProp 𝕄)
    = StableHlo.held (d.tc : Thread nD τ) (Pipeline.ucRefs τ sig \ callRefs) (StableHlo.launchContents m d) :=
  StableHlo.held_congr _ fun b hb => by
    unfold V1
    exact Function.update_of_ne (fun h => (Finset.mem_sdiff.mp hb).2 (by subst h; simp [callRefs])) _ _

theorem V1_out (d : Dev nD) : V1 m d (Proc.devRef .tc main_v0) = G m d := Function.update_self ..
theorem V1_ne (d : Dev nD) {b : Ref sig .tc} (h : b ≠ main_v0) : V1 m d (Proc.devRef .tc b) = m ((d.tc : Thread nD τ).loc b) :=
  Function.update_of_ne (StableHlo.devRef_ne_of_ne h) _ _

/-! ## @main -/

/-- What @main ends with: every unscoped buffer at what the dense call leaves. -/
abbrev FIN (d : Dev nD) : sProp 𝕄 := unscopedBufs d (left (R2 m) d)

theorem hostOps_bufs : ∀ op ∈ hostOps (F := F), op.bufs ⊆ Pipeline.ucRefs τ sig := by
  intro op hop
  refine Pipeline.sub_ucRefs op ?_
  simp only [hostOps, List.mem_cons, List.not_mem_nil, or_false] at hop
  obtain rfl | rfl | rfl | rfl | rfl | rfl | rfl | rfl := hop
  · exact StableHlo.nullary_bufs_sub ..
  · exact StableHlo.unary_bufs_sub ..
  · exact StableHlo.binary_bufs_sub ..
  · exact StableHlo.nullary_bufs_sub ..
  · exact StableHlo.unary_bufs_sub ..
  · exact StableHlo.binary_bufs_sub ..
  · exact StableHlo.reshape_bufs_sub ..
  · exact StableHlo.reshape_bufs_sub ..

theorem hostOps_fresh : ∀ op ∈ hostOps (F := F), op.fresh = ∅ :=
  List.forall_iff_forall_mem.mp (StableHlo.forall_fresh_of_map rfl)

/-- The dense call in the whole program: from the region's boundary, what the device was dealt and the buffers at `W`. -/
theorem dense_call [∀ e, Nonempty (Elt F e)] (W : (d : Dev nD) → (b : Ref sig .tc) → Buf (Elt F) ((d.tc : Thread nD τ).loc b)) (d : Dev nD)
    (Q : PUnit → sProp 𝕄) :
    iprop(((boundary (d.tc : Thread nD τ) ∗ unscopedBufs d (left W d) ∗ Pipeline.owesWithin d 0 (waited (F := F) d)) -∗ Q ⟨⟩)
        ∗ boundary (d.tc : Thread nD τ) ∗ (unscopedBufs d (W d) ∗ Pipeline.owesWithin d 0 (waited (F := F) d))
        ∗ levAts (K (F := F)).L (K (F := F)).lev ∗ dealt d)
      ⊢ wp frame (wpE ((K (F := F)).defs (D (F := F))) 𝒱 (SparseCore.T d) none) Set.univ (SparseCore.liftProg (.op (.customCall (Pipeline.entry 0) ()) .ret)) Q := by
  refine BI.Entails.trans ?_ ((K (F := F)).wp_liftProg (D (F := F)) 𝒱 (SparseCore.T d) Set.univ none _ Q)
  refine BI.Entails.trans ?_ (Pipeline.RegionSeg.wp (pcfgs (F := F)) adm (pdats W) (none : HIx 1) cellOf_inj EP defs₀ 𝒱₀ (K (F := F)).L (K (F := F)).lev
    (reg W) d none (fun _ h => nomatch h) .ret Q)
  simp only [wp_ret]
  rw [show (reg W).pre d = iprop(unscopedBufs d (W d) ∗ Pipeline.owesWithin d 0 (waited (F := F) d)) from rfl,
    show (reg W).post d = iprop(unscopedBufs d (left W d) ∗ Pipeline.owesWithin d 0 (waited (F := F) d)) from rfl]
  show (iprop(_ ∗ _ ∗ _ ∗ _ ∗ _ ∗ _) : sProp 𝕄) ⊢ iprop(_ ∗ _ ∗ _ ∗ _ ∗ _ ∗ _)
  iintro ⟨Hk, Hb, Hpre, Hl, Hg, Ht⟩
  isplitl [Hk]
  · iintro ⟨Hb, Hpost⟩
    imodintro
    iapply Hk
    isplitl [Hb]; · iexact Hb
    iexact Hpost
  isplitl [Hb]; · iexact Hb
  isplitl [Hpre]; · iexact Hpre
  isplitl [Hl]; · iexact Hl
  isplitl [Hg] <;> iassumption

/-- @main on device `d`: from the launch contents to `FIN`. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ dealt d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, wp_bind]
  have hbufs : (unscopedBufs d (fun b => m ((SparseCore.T d).loc b)) : sProp 𝕄) = StableHlo.held (d.tc : Thread nD τ) (Pipeline.ucRefs τ sig) (StableHlo.launchContents m d) :=
    Pipeline.unscopedBufs_held d (StableHlo.launchContents m d)
  rw [hbufs]
  rw [StableHlo.held_sub_split (d.tc : Thread nD τ) callRefs_sub (StableHlo.launchContents m d)]
  rw [held_callRefs]
  iintro ⟨#Hctx, Hst, ⟨Hb, ⟨⟨Hi, Hx, Ho⟩, Hrest⟩, Hts, -⟩, Hdealt⟩
  iapply ((K (F := F)).wp_run (D (F := F)) 𝒱 (EH := EH) (P := P m) κ d 0) $$ [Hst Hi Hx Ho Hrest Hb Hts Hdealt]
  isplitr; · iexact Hctx
  isplitl [Hst]; · iexact Hst
  isplitl [Hi Hx Ho]
  · rw [st_eq]
    isplitl [Hi]; · iexact Hi
    isplitl [Hx]; · iexact Hx
    iexact Ho
  iintro ⟨Hst, Hdn⟩
  ihave Hdn' := (Entails.of_eq (dn_eq m d)) $$ Hdn
  icases Hdn' with ⟨Hi, Hx, Ho⟩
  ihave Hheld := (show iprop(((iLoc d ↦{fullShare} m (iLoc d)) ∗ (xLoc d ↦{fullShare} m (xLoc d)) ∗ oLoc d ↦{fullShare} G m d)
      ∗ StableHlo.held (d.tc : Thread nD τ) (Pipeline.ucRefs τ sig \ callRefs) (StableHlo.launchContents m d))
      ⊢ (StableHlo.held (d.tc : Thread nD τ) (Pipeline.ucRefs τ sig) (V1 m d) : sProp 𝕄) from by
        rw [StableHlo.held_sub_split (d.tc : Thread nD τ) callRefs_sub (V1 m d), held_callRefs, held_rest, V1_out, V1_ne m d (b := main_arg0) (by decide),
          V1_ne m d (b := main_arg2) (by decide)]) $$ [Hi Hx Ho Hrest]
  · isplitr [Hrest]
    · isplitl [Hi]; · iexact Hi
      isplitl [Hx]; · iexact Hx
      iexact Ho
    iexact Hrest
  iapply (StableHlo.wp_seq (defs := (K (F := F)).defs (D (F := F))) (𝒱 := 𝒱) (bd := none) (E := Set.univ) d (Pipeline.ucRefs τ sig) _ hostOps hostOps_bufs hostOps_fresh (V1 m d)) $$ [Hb Hheld]
  · isplitl [Hb]; · iexact Hb
    iexact Hheld
  iintro ⟨Hb, Hheld⟩
  unfold SparseCore.Cfg.tcSt
  icases Hst with ⟨⟨%W, %hW, HO⟩, Hst⟩
  iapply (dense_call (R2 m) d _)
  isplitl [Hst Hts]
  · iintro ⟨Hb, Hbufs, Howes⟩
    unfold Pipeline.owesWithin
    icases Howes with ⟨%W', %hW', HO⟩
    isplitl [Hst HO]
    · isplitl [HO]
      · iexists W'
        isplitr; · ipureintro; exact fun p hp => hW' hp
        rw [(K (F := F)).Otc_end d (n := 1) (le_refl 1)]
        iexact HO
      iexact Hst
    isplitl [Hbufs]; · iexact Hbufs
    isplitl [Hb] <;> iassumption
  isplitl [Hb]; · iexact Hb
  isplitl [Hheld HO]
  · isplitl [Hheld]
    · rw [Pipeline.unscopedBufs_held d (V2 m d)]
      iexact Hheld
    unfold Pipeline.owesWithin
    iexists W
    isplitr; · ipureintro; exact fun p hp => hW p hp
    rw [← (K (F := F)).Otc_end (N := 1) d (n := 1) (le_refl 1)]
    iexact HO
  isplitr; · iapply ((K (F := F)).ctx_levAts κ); iexact Hctx
  iexact Hdealt

/-! ## The run -/

/-- What the memory holds at the end: each unscoped buffer what the dense call leaves. -/
def fq (d : Dev nD) (s' : Phys nD τ sig (Elt F)) : Prop :=
  ∀ b : Ref sig .tc, ¬ b.isScoped → s'.mem.mem ((d.tc : Thread nD τ).loc b) = left (R2 m) d b

theorem hfin (d : Dev nD) (s' : Phys nD τ sig (Elt F)) : iprop(FIN m d ∗ SI s') ⊢ (⌜fq m d s'⌝ : sProp 𝕄) := by
  unfold FIN unscopedBufs fq
  refine (posts_pure (q := fun b s' => s'.mem.mem ((d.tc : Thread nD τ).loc b) = left (R2 m) d b) _ (fun b s' => ?_) s').trans
    (Laws.pure_mono fun h b hb => h b (Finset.mem_filter.mpr ⟨Finset.mem_univ _, hb⟩))
  iintro ⟨Hb, HSI⟩
  ihave H := (SI_pointsTo_agree (st := s') (ℓ := (d.tc : Thread nD τ).loc b) (I := Finset.univ) (q := fullShare) (f := left (R2 m) d b)) $$ [HSI Hb]
  · isplitl [HSI] <;> iassumption
  icases H with %h
  ipureintro
  exact funext fun i => h i (Finset.mem_univ i)

/-- Where the run ends: every unscoped buffer at what the dense call leaves, every semaphore at zero. -/
def QC (r : PUnit × MemSt nD τ sig (Elt F)) : Prop :=
  (∀ (d : Dev nD) (b : Ref sig .tc), ¬ b.isScoped → r.2.mem ((d.tc : Thread nD τ).loc b) = left (R2 m) d b) ∧ r.2.sem = fun _ => 0

/-- The whole program runs and ends at `QC`. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main dealt (FIN m) (u₀ (F := F)) (sep_elim_left.trans (hu₀ m)) (hmain m ρ) (fq m) (hfin m) (QC m) (fun _ h hz => ⟨h, hz⟩)

end Cert.Proof.KernelIdealRun

end
-- ==== Proof.KernelIdeal.Ends.lean ====
/-
  What the run leaves in the arrays the claims name: the arguments as they were, and the result as the dense call's
  function of the gathered rows and the padded weights, both written out over the arguments.
-/
module

public import proofs.«01_k».proof.Proof.KernelIdeal.Main

@[expose] public section

noncomputable section

namespace Cert.Proof.KernelIdealRun

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- What the host operations write, in order. -/
abbrev hostOuts : List (Ref sig .tc) := [main_c, main_call0_v0, main_v1, main_c_0, main_call1_v0, main_v2, main_v3, main_v4]

/-- A buffer no host operation writes is after them what it was before. -/
theorem V2_ne (d : Dev nD) {b : Ref sig .tc} (h : b ∉ hostOuts) : R2 m d b = V1 m d (Proc.devRef .tc b) :=
  StableHlo.after_of_writes_sub (W := hostOuts) hostOps (V1 m d) (StableHlo.forall_writes_sub_of_map rfl) h

/-- A buffer that is written nowhere in @main ends as it began. -/
theorem kept (d : Dev nD) {b : Ref sig .tc} (h : b ∉ main_v0 :: main_v5 :: hostOuts) : left (R2 m) d b = m ((d.tc : Thread nD τ).loc b) := by
  simp only [List.mem_cons, not_or] at h
  rw [left_ne _ d h.2.1, V2_ne m d (by simpa only [List.mem_cons, not_or] using h.2.2), V1_ne m d h.1]

/-- The seven arguments after the run are the arguments before it. -/
theorem args_kept {r : PUnit × MemSt nD τ sig (Elt F)} (h : QC m r) (d : Dev nD) :
    r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6) :=
  have k (b : Ref sig .tc) (hs : ¬ b.isScoped) (hb : b ∉ main_v0 :: main_v5 :: hostOuts) :
      r.2.mem ((d.tc : Thread nD τ).loc b) = m ((d.tc : Thread nD τ).loc b) := (h.1 d b hs).trans (kept m d hb)
  ⟨k main_arg0 (by decide) (by decide), k main_arg1 (by decide) (by decide), k main_arg2 (by decide) (by decide),
    k main_arg3 (by decide) (by decide), k main_arg4 (by decide) (by decide), k main_arg5 (by decide) (by decide),
    k main_arg6 (by decide) (by decide)⟩

end Cert.Proof.KernelIdealRun

end
-- ==== Proof.Frames.lean ====
/-
  The frames: the kernel at words and at extended reals under the index range, and the reference at extended reals.
-/
module

public import proofs.«01_k».proof.Defs
public import proofs.«01_k».proof.Proof.InRange
public import proofs.«01_k».proof.Proof.Kernel.Ends
public import proofs.«01_k».proof.Proof.KernelIdeal.Ends
public import proofs.«01_k».proof.Proof.Gen.ReferenceIdeal.Run
public import proofs.«01_k».proof.Proof.Gen.Pre_in_range

@[expose] public section

noncomputable section

namespace Cert.Proof

open Idealize.ShloMosaic Idealize.SL.Sem

/-- The side conditions each printed program and the predicate state. -/
instance : Cert.Kernel.Facts := Cert.Kernel.Gen.facts
instance : Cert.KernelIdeal.Facts := Cert.KernelIdeal.Gen.facts
instance : Cert.ReferenceIdeal.Facts := Cert.ReferenceIdeal.Gen.facts
instance : Cert.Pre_in_range.Facts := Cert.Pre_in_range.Gen.facts

/-- The kernel at words runs, keeps its arguments and ends with every counter at zero. -/
theorem frame_kernel : Cert.quiescent_Kernel := fun m ρ hpre =>
  (θ_run Cert.Kernel.defs _ _).mono (fun _ h => ⟨KernelRun.args_kept m h, h.2⟩)
    (KernelRun.run_main (F := Bits) m ρ fun d => (InRange.words _ _ _ _ _ _ _ (hpre d)).1)

/-- The kernel at extended reals runs, keeps its arguments and ends with every counter at zero. -/
theorem frame_kernelIdeal : Cert.quiescent_KernelIdeal := fun m ρ hpre =>
  (θ_run Cert.KernelIdeal.defs _ _).mono (fun _ h => ⟨KernelIdealRun.args_kept m h, h.2⟩)
    (KernelIdealRun.run_main (F := Ideal) m ρ fun d => (InRange.words _ _ _ _ _ _ _ (hpre d)).1)

/-- The reference at extended reals runs from any arguments, keeps them, and has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Values.Answer.lean ====
/-
  What the problem asks for, over the extended reals: for each row of the result, the two-layer perceptron of the
  table's row that the row's index word names, one score per class, and zeros in the columns past the classes.
-/
module

public import Idealize.ShloMosaic.PureOps.Ideal
public import Idealize.ShloMosaic.Lib.ValueIdxCore

@[expose] public section

noncomputable section

namespace Cert.Proof.Answer

open Idealize.ShloMosaic Idealize.ShloMosaic.ValueIdx

/-- A matrix of extended reals of `a` rows and `b` columns, and a vector of `a` of them. -/
abbrev Mat (a b : Nat) := (⟨2, ![a, b]⟩ : Shape).Idx → EReal
abbrev Row (a : Nat) := (⟨1, ![a]⟩ : Shape).Idx → EReal

/-- The row of the table that a word names. -/
def row (t : BitVec 32) : Fin 100000 := ⟨t.toNat % 100000, Nat.mod_lt _ (by decide)⟩

variable (x : Fin 128 → EReal) (w1 : Mat 2048 128) (b1 : Row 2048) (w2 : Mat 1000 2048) (b2 : Row 1000)

/-- Unit `k` of the hidden layer on the row `x`. -/
def hidden (k : Fin 2048) : EReal := max ((∑ e : Fin 128, x e * w1 (ix2 k e)) + b1 (ix1 k)) 0

/-- The score of class `c` on the row `x`. -/
def score (c : Fin 1000) : EReal := (∑ k : Fin 2048, hidden x w1 b1 k * w2 (ix2 c k)) + b2 (ix1 c)

/-- The whole answer. -/
def answer (text : (⟨1, ![16384]⟩ : Shape).Idx → BitVec 32) (table : Mat 100000 128) : Mat 16384 1024 := fun j =>
  if h : (j 1).val < 1000 then score (fun e => table (ix2 (row (text (ix1 (j 0)))) e)) w1 b1 w2 b2 ⟨(j 1).val, h⟩ else 0

end Cert.Proof.Answer

end
-- ==== Proof.Values.Kernel.lean ====
/-
  The kernel's result at the extended reals: what the run leaves in the result's array is the answer.
-/
module

public import proofs.«01_k».proof.Proof.KernelIdeal.Ends
public import proofs.«01_k».proof.Proof.Values.Answer
public import Idealize.ShloMosaic.PureOps.Ideal.Laws
public import Idealize.ShloMosaic.Lib.ValueIdx
public import Idealize.ShloMosaic.Lib.ValueLayout
public import Idealize.ShloMosaic.Lib.KernelVsHost

@[expose] public section

noncomputable section

namespace Cert.Proof.KernelValue

open Cert.KernelIdeal Cert.KernelIdeal.Gen Cert.Proof.KernelIdealRun Cert.Proof.Answer
open Idealize.ShloMosaic Idealize.ShloMosaic.TcCoe Idealize.ShloMosaic.ValueIdx

/-! ## The two products -/

/-- A first-layer product at row `p` and unit `k`: the sum over the embedding's coordinates. -/
theorem product1 (x : S1024x128.Idx → EReal) (w : S2048x128.Idx → EReal) (p : Fin 1024) (k : Fin 2048) :
    matmul (F := Ideal) (φ₁ := .f32) (φ₂ := .f32) dot_S1024x128_S2048x128_S1024x2048_1_1_0_0_n_n none x w (constant S1024x2048 .f32 0x00000000#32) (ix2 p k)
      = ∑ e : Fin 128, x (ix2 p e) * w (ix2 k e) := by
  refine (Ideal.matmul_constant_zero_apply dot_S1024x128_S2048x128_S1024x2048_1_1_0_0_n_n none x w (ix2 p k)).trans ?_
  refine (Equiv.sum_comp (contrEquiv1 dot_S1024x128_S2048x128_S1024x2048_1_1_0_0_n_n 128 rfl rfl).symm _).symm.trans ?_
  refine Finset.sum_congr rfl fun e _ => ?_
  refine congrArg₂ (fun a b => x a * w b) ?_ ?_
  · funext a; match a with | ⟨0, _⟩ => rfl | ⟨1, _⟩ => rfl
  · funext a; match a with | ⟨0, _⟩ => rfl | ⟨1, _⟩ => rfl

/-- A second-layer product at row `p` and column `c`: the sum over the hidden units. -/
theorem product2 (x : S1024x2048.Idx → EReal) (w : S1024x2048.Idx → EReal) (p : Fin 1024) (c : Fin 1024) :
    matmul (F := Ideal) (φ₁ := .f32) (φ₂ := .f32) dot_S1024x2048_S1024x2048_S1024x1024_1_1_0_0_n_n none x w (constant S1024x1024 .f32 0x00000000#32) (ix2 p c)
      = ∑ k : Fin 2048, x (ix2 p k) * w (ix2 c k) := by
  refine (Ideal.matmul_constant_zero_apply dot_S1024x2048_S1024x2048_S1024x1024_1_1_0_0_n_n none x w (ix2 p c)).trans ?_
  refine (Equiv.sum_comp (contrEquiv1 dot_S1024x2048_S1024x2048_S1024x1024_1_1_0_0_n_n 2048 rfl rfl).symm _).symm.trans ?_
  refine Finset.sum_congr rfl fun e _ => ?_
  refine congrArg₂ (fun a b => x a * w b) ?_ ?_
  · funext a; match a with | ⟨0, _⟩ => rfl | ⟨1, _⟩ => rfl
  · funext a; match a with | ⟨0, _⟩ => rfl | ⟨1, _⟩ => rfl

/-- What a grid point stores at row `p` of its block and column `c`. -/
theorem payload (x : S1024x128.Idx → EReal) (w1 : S2048x128.Idx → EReal) (b1 : S1x2048.Idx → EReal) (w2 : S1024x2048.Idx → EReal)
    (b2 : S1x1024.Idx → EReal) (p c : Fin 1024) :
    k1_pay1 (F := Ideal) x w1 b1 w2 b2 (ix2 p c)
      = (∑ k : Fin 2048, max ((∑ e : Fin 128, x (ix2 p e) * w1 (ix2 k e)) + b1 (ix2 (0 : Fin 1) k)) 0 * w2 (ix2 c k))
        + b2 (ix2 (0 : Fin 1) c) := by
  unfold k1_pay1
  rw [shapeCast_self, shapeCast_self, shapeCast_self, shapeCast_self, addf_apply, product2, broadcastTo_1b_ab_apply]
  refine congrArg (· + _) (Finset.sum_congr rfl fun k _ => congrArg (· * _) ?_)
  rw [maximumf_apply, addf_apply, product1, broadcastTo_1b_ab_apply]
  exact congrArg (max _) Ideal.ofBits_zero_f32

/-! ## The padded weights -/

/-- The padding value: the word zero, as a float. -/
abbrev zeroPad : S_.Idx → EReal := sitofp (F := Ideal) .f32 (constantI S_ 32 0#32)

theorem zeroPad_apply (i : S_.Idx) : zeroPad i = 0 := by
  show (((0#32 : BitVec 32).toInt : ℝ) : EReal) = 0
  simp

/-- The second weight with its rows padded to the result's width, and the second bias likewise, laid as a row. -/
abbrev padW2 (w2 : S1000x2048.Idx → EReal) : S1024x2048.Idx → EReal :=
  pad S1024x2048 ![0, 0] ![24, 0] ![0, 0] w2 zeroPad pads_S1000x2048_S1024x2048_0240_000 h_S_
abbrev padB2 (b2 : S1000.Idx → EReal) : S1x1024.Idx → EReal :=
  shapeCast S1x1024 (pad S1024 ![0] ![24] ![0] b2 zeroPad pads_S1000_S1024_0240 h_S_) shapeCasts_S1024_S1x1024

variable (w2 : S1000x2048.Idx → EReal) (b2 : S1000.Idx → EReal)

/-- Row `c` of the padded weight is the weight's when `c` is a class. -/
theorem padW2_class (c : Fin 1024) (h : c.val < 1000) (k : Fin 2048) : padW2 w2 (ix2 c k) = w2 (ix2 ⟨c.val, h⟩ k) :=
  pad_apply_of_inside _ _ _ _ _ _ _ _ _ fun a => match a with
    | ⟨0, _⟩ => show c.val = 0 + c.val * (0 + 1) by omega
    | ⟨1, _⟩ => show k.val = 0 + k.val * (0 + 1) by omega

/-- Past the classes it is zero. -/
theorem padW2_past (c : Fin 1024) (h : ¬ c.val < 1000) (k : Fin 2048) : padW2 w2 (ix2 c k) = 0 := by
  refine (pad_apply_of_not_inside _ _ _ _ _ _ _ _ (0 : Fin 2) fun hin => ?_).trans (zeroPad_apply _)
  have h2 : (c.val - 0) / (0 + 1) < 1000 := hin.2.2
  omega

/-- Entry `c` of the padded bias is the bias's when `c` is a class. -/
theorem padB2_class (c : Fin 1024) (h : c.val < 1000) : padB2 b2 (ix2 (0 : Fin 1) c) = b2 (ix1 ⟨c.val, h⟩) := by
  refine (shapeCast_a_1a_apply _ shapeCasts_S1024_S1x1024 0 c).trans ?_
  exact pad_apply_of_inside _ _ _ _ _ _ _ _ _ fun a => match a with
    | ⟨0, _⟩ => show c.val = 0 + c.val * (0 + 1) by omega

/-- Past the classes it is zero. -/
theorem padB2_past (c : Fin 1024) (h : ¬ c.val < 1000) : padB2 b2 (ix2 (0 : Fin 1) c) = 0 := by
  refine (shapeCast_a_1a_apply _ shapeCasts_S1024_S1x1024 0 c).trans ?_
  refine (pad_apply_of_not_inside _ _ _ _ _ _ _ _ (0 : Fin 1) fun hin => ?_).trans (zeroPad_apply _)
  have h2 : (c.val - 0) / (0 + 1) < 1000 := hin.2.2
  omega

/-- On the gathered rows and the padded weights the dense call computes the answer. -/
theorem dense_answer (text : S16384.Idx → BitVec 32) (table : S100000x128.Idx → EReal) (w1 : S2048x128.Idx → EReal) (b1 : S2048.Idx → EReal) :
    dense (F := Ideal) (gathered (F := Ideal) text table) w1 (shapeCast S1x2048 b1 shapeCasts_S2048_S1x2048) (padW2 w2) (padB2 b2)
      = answer w1 b1 w2 b2 text table := by
  funext j
  have hr : (⟨1024 * ((j 0).val / 1024) + (j 0).val % 1024, by have h : (j 0).val < 16384 := (j 0).isLt; omega⟩ : Fin 16384) = j 0 :=
    Fin.ext (Nat.div_add_mod _ _)
  have hx (e : Fin 128) : rowsOf (F := Ideal) (gathered (F := Ideal) text table) ⟨(j 0).val / 1024, by have h : (j 0).val < 16384 := (j 0).isLt; omega⟩
      (ix2 (⟨(j 0).val % 1024, Nat.mod_lt _ (by decide)⟩ : Fin 1024) e) = table (ix2 (row (text (ix1 (j 0)))) e) :=
    congrArg (fun r : Fin 16384 => table (ix2 (row (text (ix1 r))) e)) hr
  refine (payload _ _ _ _ _ _ _).trans ?_
  simp only [hx]
  unfold answer
  split
  · rename_i h
    refine congrArg₂ (· + ·) (Finset.sum_congr rfl fun k _ => congrArg₂ (· * ·) ?_ (padW2_class w2 (j 1) h k)) (padB2_class b2 (j 1) h)
    exact congrArg (fun y => max (_ + y) 0) (shapeCast_a_1a_apply b1 shapeCasts_S2048_S1x2048 0 k)
  · rename_i h
    refine (congrArg₂ (· + ·) (Finset.sum_eq_zero fun k _ => ?_) (padB2_past b2 (j 1) h)).trans (add_zero 0)
    exact (congrArg (_ * ·) (padW2_past w2 (j 1) h k)).trans (mul_zero _)

/-! ## The contents the dense call starts from -/

variable (m : (ℓ : Loc nD τ sig) → Buf (Elt Ideal) ℓ) (d : Dev nD)

/-- The padded second weight. -/
theorem at_v1 : V2 m d main_v1 = padW2 (m ((d.tc : Thread nD τ).loc main_arg5)) := by
  refine Eq.trans ?_ (congrArg padW2 (V1_ne m d (b := main_arg5) (by decide)))
  unfold V2
  simp only [hostOps, StableHlo.TRef.binary, StableHlo.TRef.nullary, StableHlo.TRef.unary, StableHlo.TRef.toBuf, StableHlo.TRef.ofBuf, cast_eq]
  after_results_simp <;> rfl

/-- The padded second bias. -/
theorem at_v3 : V2 m d main_v3 = padB2 (m ((d.tc : Thread nD τ).loc main_arg6)) := by
  refine Eq.trans ?_ (congrArg padB2 (V1_ne m d (b := main_arg6) (by decide)))
  unfold V2
  simp only [hostOps, StableHlo.TRef.binary, StableHlo.TRef.nullary, StableHlo.TRef.unary, StableHlo.TRef.toBuf, StableHlo.TRef.ofBuf, cast_eq]
  after_results_simp <;> rfl

/-- The first bias, laid as a row. -/
theorem at_v4 : V2 m d main_v4 = shapeCast S1x2048 (m ((d.tc : Thread nD τ).loc main_arg4)) shapeCasts_S2048_S1x2048 := by
  refine Eq.trans ?_ (congrArg (fun b => shapeCast S1x2048 b shapeCasts_S2048_S1x2048) (V1_ne m d (b := main_arg4) (by decide)))
  unfold V2
  simp only [hostOps, StableHlo.TRef.binary, StableHlo.TRef.nullary, StableHlo.TRef.unary, StableHlo.TRef.toBuf, StableHlo.TRef.ofBuf, cast_eq]
  after_results_simp <;> rfl

/-- The result's array ends at the answer. -/
theorem result : left (R2 m) d main_v5
    = answer (m ((d.tc : Thread nD τ).loc main_arg3)) (m ((d.tc : Thread nD τ).loc main_arg4)) (m ((d.tc : Thread nD τ).loc main_arg5))
        (m ((d.tc : Thread nD τ).loc main_arg6)) (m ((d.tc : Thread nD τ).loc main_arg0)) (m ((d.tc : Thread nD τ).loc main_arg2)) := by
  rw [left_out]
  show dense (F := Ideal) (R2 m d main_v0) (R2 m d main_arg3) (R2 m d main_v4) (R2 m d main_v1) (R2 m d main_v3) = _
  rw [show R2 m d main_v4 = _ from at_v4 m d, show R2 m d main_v1 = _ from at_v1 m d, show R2 m d main_v3 = _ from at_v3 m d,
    V2_ne m d (b := main_v0) (by decide), V2_ne m d (b := main_arg3) (by decide), V1_out, V1_ne m d (b := main_arg3) (by decide)]
  exact dense_answer _ _ _ _ _ _

end Cert.Proof.KernelValue

end
-- ==== Proof.Values.Reference.lean ====
/-
  The reference's result at the extended reals: on index words in range and on the offsets 0, 1, 2, … it is the answer.
-/
module

public import proofs.«01_k».proof.Proof.Gen.ReferenceIdeal.Read
public import proofs.«01_k».proof.Proof.Values.Answer
public import Idealize.ShloMosaic.PureOps.Ideal.Laws
public import Idealize.ShloMosaic.Lib.ValueIdx
public import Idealize.ShloMosaic.Lib.ValueLayout
public import Idealize.ShloMosaic.Lib.KernelVsHost
public import Idealize.ShloMosaic.Lib.ReduceAll
public import Idealize.ShloMosaic.Lib.IdealHost
public import Idealize.ShloMosaic.Lib.StableHlo.Predicate

@[expose] public section

noncomputable section

namespace Cert.Proof.ReferenceValue

open Cert.ReferenceIdeal Cert.ReferenceIdeal.Gen Cert.ReferenceIdeal.Read Cert.Proof.Answer
open Idealize.ShloMosaic Idealize.ShloMosaic.TcCoe Idealize.ShloMosaic.ValueIdx

variable (text offsets : S16384.Idx → BitVec 32) (table : S100000x128.Idx → EReal)

/-- A row number below 16384, held in a word, is itself. -/
theorem toNat_row {n : Nat} (h : n < 16384) : (BitVec.ofNat 32 n).toNat = n := by
  rw [BitVec.toNat_ofNat]; exact Nat.mod_eq_of_lt (by omega)

theorem toInt_row {n : Nat} (h : n < 16384) : (BitVec.ofNat 32 n).toInt = n := by
  rw [BitVec.toInt_eq_toNat_of_lt (by rw [toNat_row h]; omega), toNat_row h]

/-- A sum by places in which every update lands at its own place adds each update to what is there. -/
theorem scatter_own {s si : Shape} (d : ScatterDims s si s) (x : s.Idx → EReal) (idx : si.Idx → BitVec 32) (upd : s.Idx → EReal)
    (h : ∀ j, d.resultIdx? j idx = some j) (i : s.Idx) : Host.scatterAdd (F := Ideal) (φ := .f32) d x idx upd i = x i + upd i := by
  show Ideal.hostScatterAdd d x idx upd i = _
  unfold Ideal.hostScatterAdd
  rw [show (Finset.univ.filter fun j => d.resultIdx? j idx = some i) = {i} from Finset.ext fun j => by
    rw [Finset.mem_filter, h, Finset.mem_singleton, Option.some_inj]
    exact ⟨fun e => e.2, fun e => ⟨Finset.mem_univ _, e⟩⟩, Finset.sum_singleton]

/-! ## Each position is a bag of its own -/

section Bags
variable (ho : ∀ i, offsets i = BitVec.ofNat 32 (i 0).val)
include ho

/-- The comparison at row `r` and position `q` says that the offset of `q` is at most `r`: that `q` is. -/
theorem upto (r q : Fin 16384) : val_main_v5 (F := Ideal) offsets (StableHlo.Predicate.ij r q) = 1#1 ↔ q ≤ r := by
  rw [val_main_v5_apply, val_main_v3_apply, val_main_v1_apply, val_main_v4_apply, val_main_v2_apply, val_main_v0_apply, ho]
  show IntOp.cmpi .sle (BitVec.ofNat 32 q.val) (BitVec.ofNat 32 r.val) = 1#1 ↔ _
  have hq := toNat_row q.isLt
  have hr := toNat_row r.isLt
  rw [StableHlo.Predicate.sle_iff_toNat (by omega) (by omega), hq, hr]
  exact Iff.rfl

/-- The offsets up to position `r` are `r + 1` in number. -/
theorem offsets_upto (r : Fin 16384) : (val_main_v7 (F := Ideal) offsets (ix1 r)).toNat = r.val + 1 := by
  refine (StableHlo.Predicate.toNat_reduce_count_cols (by decide) (val_main_v5 (F := Ideal) offsets) natLt_1_32
    reducesTo_S16384x16384_S16384_d1 h_S_ (ix1 r)).trans ?_
  refine (congrArg Finset.card (Finset.ext fun q : Fin 16384 => ?_)).trans (Fin.card_Iic r)
  exact (Finset.mem_filter.trans (and_iff_right (Finset.mem_univ _))).trans ((upto offsets ho r q).trans Finset.mem_Iic.symm)

/-- Position `r` belongs to bag `r`. -/
theorem bag (i : S16384x1.Idx) : val_main_v12 (F := Ideal) offsets i = BitVec.ofNat 32 (i 0).val := by
  have hi : (i 0).val < 16384 := (i 0).isLt
  rw [val_main_v12_apply, val_main_v9_apply, val_main_v8_apply, val_main_c_1_apply]
  refine BitVec.eq_of_toNat_eq ?_
  show (val_main_v7 (F := Ideal) offsets (idx_main_v12 i) - 1#32).toNat = _
  rw [show idx_main_v12 i = ix1 (⟨(i 0).val, hi⟩ : Fin 16384) from by funext a; match a with | ⟨0, _⟩ => rfl, BitVec.toNat_sub,
    offsets_upto offsets ho, toNat_row hi]
  show (2 ^ 32 - 1 + ((i 0).val + 1)) % 2 ^ 32 = (i 0).val
  omega

/-- Where bag `r` ends. -/
theorem bag_end (i : S16384.Idx) : val_main_v15 (F := Ideal) offsets i = BitVec.ofNat 32 ((i 0).val + 1) := by
  have hi : (i 0).val < 16384 := (i 0).isLt
  by_cases h : (i 0).val < 16383
  · refine (concatenate_pair_apply_left (0 : Fin 1) (val_main_v14 (F := Ideal) offsets) (val_main_c (F := Ideal))
      concatenates_S16383_S1_S16384_d0 i rfl (ix1 ⟨(i 0).val, h⟩) (fun b => match b with | ⟨0, _⟩ => rfl)).trans ?_
    rw [val_main_v14_apply, ho]
    exact congrArg (BitVec.ofNat 32) (Nat.add_comm 1 _)
  · refine (concatenate_pair_apply_right (t := S16384) (s₁ := S16383) (s₂ := S1) (0 : Fin 1) (val_main_v14 (F := Ideal) offsets) (val_main_c (F := Ideal))
      concatenates_S16383_S1_S16384_d0 i rfl rfl (ix1 (0 : Fin 1)) (fun b hb => absurd (Subsingleton.elim (α := Fin 1) _ _) hb)
      (show 0 + 16383 = (i 0).val by omega)).trans ?_
    rw [val_main_c_apply, show (i 0).val + 1 = 16384 by omega]

/-- Bag `r` holds one position. -/
theorem bag_size (i : S16384.Idx) : val_main_v16 (F := Ideal) offsets i = 1#32 := by
  have hi : (i 0).val < 16384 := (i 0).isLt
  rw [val_main_v16_apply, bag_end offsets ho, ho]
  refine BitVec.eq_of_toNat_eq ?_
  show (BitVec.ofNat 32 ((i 0).val + 1) - BitVec.ofNat 32 (i 0).val).toNat = 1
  rw [BitVec.toNat_sub, toNat_row hi, BitVec.toNat_ofNat]
  omega

/-- The divisor of every mean is one. -/
theorem divisor (i : S16384x128.Idx) : val_main_v21 (F := Ideal) offsets i = (1 : EReal) := by
  rw [val_main_v21_apply, val_main_v20_apply, val_main_v19_apply, val_main_v17_apply, val_main_v18_apply, val_main_cst_2_apply, bag_size offsets ho]
  have h1 : (FloatOps.sitofp (F := Ideal) .f32 (1#32 : BitVec 32) : EReal) = 1 := by
    show (((1#32 : BitVec 32).toInt : ℝ) : EReal) = 1
    simp
  have h2 : (FloatOps.ofBits (F := Ideal) .f32 0x3F800000#32 : EReal) = 1 := Ideal.ofBits_one_f32
  rw [h1, h2]
  exact max_self _

/-- An update of the sum lands at its own place. -/
theorem lands (j : S16384x128.Idx) :
    scatter_S16384x128_S16384x1_S16384x128_1_0_0_1.resultIdx? j (val_main_v12 (F := Ideal) offsets) = some j := by
  have h0 : scatter_S16384x128_S16384x1_S16384x128_1_0_0_1.start j (val_main_v12 (F := Ideal) offsets) 0
      + scatter_S16384x128_S16384x1_S16384x128_1_0_0_1.window j 0 = (j 0).val := by
    have hs : scatter_S16384x128_S16384x1_S16384x128_1_0_0_1.start j (val_main_v12 (F := Ideal) offsets) 0
        = (val_main_v12 (F := Ideal) offsets (ix2 (j 0) (0 : Fin 1))).toInt := by
      unfold ScatterDims.start
      rw [dif_pos (by decide)]
      refine congrArg (fun i => (val_main_v12 (F := Ideal) offsets i).toInt) ?_
      funext b; match b with | ⟨0, _⟩ => rfl | ⟨1, _⟩ => rfl
    have hw : scatter_S16384x128_S16384x1_S16384x128_1_0_0_1.window j 0 = 0 := by
      unfold ScatterDims.window; rw [dif_neg (by decide)]
    rw [hs, hw, bag offsets ho]
    exact (add_zero _).trans (toInt_row (j 0).isLt)
  have h1 : scatter_S16384x128_S16384x1_S16384x128_1_0_0_1.start j (val_main_v12 (F := Ideal) offsets) 1
      + scatter_S16384x128_S16384x1_S16384x128_1_0_0_1.window j 1 = (j 1).val := by
    have hs : scatter_S16384x128_S16384x1_S16384x128_1_0_0_1.start j (val_main_v12 (F := Ideal) offsets) 1 = 0 := by
      unfold ScatterDims.start; rw [dif_neg (by decide)]
    have hw : scatter_S16384x128_S16384x1_S16384x128_1_0_0_1.window j 1 = (j 1).val := by
      unfold ScatterDims.window; rw [dif_pos (by decide)]; rfl
    rw [hs, hw]; exact zero_add _
  have h (a : Fin 2) : scatter_S16384x128_S16384x1_S16384x128_1_0_0_1.start j (val_main_v12 (F := Ideal) offsets) a
      + scatter_S16384x128_S16384x1_S16384x128_1_0_0_1.window j a = (j a).val := match a with | ⟨0, _⟩ => h0 | ⟨1, _⟩ => h1
  unfold ScatterDims.resultIdx?
  rw [dif_pos fun a => by rw [h a]; exact ⟨Int.natCast_nonneg _, Int.ofNat_lt.2 (j a).isLt⟩]
  refine congrArg some (funext fun a => Fin.ext ?_)
  show (_ : Int).toNat = _
  rw [h a]; rfl

/-- The bag sums are the taken rows. -/
theorem sums (j : S16384x128.Idx) : val_main_v13 (F := Ideal) text offsets table j = val_main_v10 (F := Ideal) text table j := by
  unfold val_main_v13
  generalize val_main_v10 (F := Ideal) text table = y
  have hz : (val_main_v11 (F := Ideal) j : EReal) = 0 := (val_main_v11_apply j).trans Ideal.ofBits_zero_f32
  refine (scatter_own scatter_S16384x128_S16384x1_S16384x128_1_0_0_1 (val_main_v11 (F := Ideal)) (val_main_v12 (F := Ideal) offsets)
    y (lands offsets ho) j).trans ?_
  rw [hz, zero_add]

/-- The bag means are the taken rows. -/
theorem means (j : S16384x128.Idx) : val_main_v22 (F := Ideal) text offsets table j = val_main_v10 (F := Ideal) text table j := by
  rw [val_main_v22_apply, sums text offsets table ho, divisor offsets ho]
  refine (Ideal.div_coe (y := 1) one_ne_zero _).trans ?_
  rw [div_one, EReal.coe_one, mul_one]

end Bags

/-! ## The rows taken -/

section Rows
variable (ht : ∀ i, (text i).toNat < 100000)
include ht

/-- The take keeps every index word: none is negative. -/
theorem word_kept (i : S16384.Idx) : val_main_call0_v4 (F := Ideal) text i = text i := by
  rw [val_main_call0_v4_apply, val_main_call0_v1_apply, val_main_call0_v0_apply, val_main_call0_c_apply]
  have := ht i
  have hn : ¬ IntOp.cmpi .slt (text i) 0#32 = 1#1 := by
    rw [StableHlo.Predicate.slt_iff_toNat (by omega) (by decide)]; exact Nat.not_lt_zero _
  exact if_neg hn

/-- The word the take reads at. -/
theorem taken_at (i : S16384x1.Idx) : val_main_call0_v5 (F := Ideal) text i = text (idx_main_call0_v5 i) :=
  (val_main_call0_v5_apply text i).trans (word_kept text ht _)

/-- The take's range check passes everywhere. -/
theorem in_table (i : S16384.Idx) : val_main_call0_v12 (F := Ideal) text i = 1#1 := by
  refine Host.reduce_andi_one _ _ _ _ _ rfl fun i => ?_
  rw [val_main_call0_v11_apply, val_main_call0_v7_apply, val_main_call0_v10_apply, taken_at text ht, val_main_call0_v6_apply,
    val_main_call0_c_2_apply, val_main_call0_v9_apply, val_main_call0_v8_apply, val_main_call0_c_1_apply]
  have := ht (idx_main_call0_v5 i)
  rw [(StableHlo.Predicate.sge_iff_toNat (by omega) (by decide)).2 (Nat.zero_le _),
    (StableHlo.Predicate.sle_iff_toNat (by omega) (by decide)).2 (show (text (idx_main_call0_v5 i)).toNat ≤ 99999 by omega)]
  rfl

/-- The rows taken are the table's at the index words. -/
theorem taken (r : Fin 16384) (e : Fin 128) : val_main_v10 (F := Ideal) text table (ix2 r e) = table (ix2 (row (text (ix1 r))) e) := by
  rw [val_main_v10_apply, val_main_call0_v14_apply, in_table text ht]
  refine (select_one (α := EReal) _ _).trans ?_
  refine congrArg table (funext fun a => Fin.ext ?_)
  have hr := ht (ix1 r)
  match a with
  | ⟨0, _⟩ =>
    show gather_S100000x128_S16384x1_S16384x128_1_0_n_n_0_1_1128.start (ix2 r e) (val_main_call0_v5 (F := Ideal) text) 0
      + gather_S100000x128_S16384x1_S16384x128_1_0_n_n_0_1_1128.batchCoord (ix2 r e) 0
      + gather_S100000x128_S16384x1_S16384x128_1_0_n_n_0_1_1128.offCoord (ix2 r e) 0 = (text (ix1 r)).toNat % 100000
    rw [GatherDims.batchCoord_eq_zero _ _ _ (by decide), GatherDims.offCoord_eq_zero _ _ _ (by decide)]
    unfold GatherDims.start
    rw [dif_pos (by decide)]
    have hsi : gather_S100000x128_S16384x1_S16384x128_1_0_n_n_0_1_1128.siIdx (ix2 r e) ⟨0, by decide⟩ = ix2 r (0 : Fin 1) := by
      funext b; match b with | ⟨0, _⟩ => rfl | ⟨1, _⟩ => rfl
    show min (val_main_call0_v5 (F := Ideal) text (gather_S100000x128_S16384x1_S16384x128_1_0_n_n_0_1_1128.siIdx (ix2 r e) ⟨0, by decide⟩)).toInt.toNat (100000 - 1)
      + 0 + 0 = (text (ix1 r)).toNat % 100000
    rw [hsi, taken_at text ht, show idx_main_call0_v5 (ix2 r (0 : Fin 1)) = ix1 r from by funext a; match a with | ⟨0, _⟩ => rfl]
    show min (text (ix1 r)).toInt.toNat (100000 - 1) + 0 + 0 = (text (ix1 r)).toNat % 100000
    rw [BitVec.toInt_eq_toNat_of_lt (by omega)]
    omega
  | ⟨1, _⟩ =>
    show gather_S100000x128_S16384x1_S16384x128_1_0_n_n_0_1_1128.start (ix2 r e) (val_main_call0_v5 (F := Ideal) text) 1
      + gather_S100000x128_S16384x1_S16384x128_1_0_n_n_0_1_1128.batchCoord (ix2 r e) 1
      + gather_S100000x128_S16384x1_S16384x128_1_0_n_n_0_1_1128.offCoord (ix2 r e) 1 = e.val
    rw [GatherDims.batchCoord_eq_zero _ _ _ (by decide)]
    unfold GatherDims.start
    rw [dif_neg (by decide)]
    unfold GatherDims.offCoord
    rw [dif_pos (by decide)]
    show 0 + 0 + e.val = e.val
    omega

end Rows

/-! ## The two layers -/

section Layers
variable (ho : ∀ i, offsets i = BitVec.ofNat 32 (i 0).val) (ht : ∀ i, (text i).toNat < 100000)
variable (w1 : S2048x128.Idx → EReal) (b1 : S2048.Idx → EReal) (w2 : S1000x2048.Idx → EReal) (b2 : S1000.Idx → EReal)
include ho ht

/-- The first product of row `r` at unit `k`. -/
theorem first (r : Fin 16384) (k : Fin 2048) : val_main_v24 (F := Ideal) text offsets table w1 (ix2 r k)
    = ∑ e : Fin 128, table (ix2 (row (text (ix1 r))) e) * w1 (ix2 k e) := by
  refine (val_main_v24_apply text offsets table w1 (ix2 r k)).trans (Finset.sum_congr rfl fun e _ => ?_)
  have hl : lidx_main_v24 (ix2 r k) e = ix2 r e := by funext a; match a with | ⟨0, _⟩ => rfl | ⟨1, _⟩ => rfl
  have hr : idx_main_v23 (ridx_main_v24 (ix2 r k) e) = ix2 k e := by funext a; match a with | ⟨0, _⟩ => rfl | ⟨1, _⟩ => rfl
  rw [hl, val_main_v23_apply, hr, means text offsets table ho, taken text table ht]

/-- The hidden layer of row `r` at unit `k`. -/
theorem second (r : Fin 16384) (k : Fin 2048) : val_main_v28 (F := Ideal) text offsets table w1 b1 (ix2 r k)
    = hidden (fun e => table (ix2 (row (text (ix1 r))) e)) w1 b1 k := by
  have hb : idx_main_v25 (idx_main_v26 (ix2 r k)) = ix1 k := by funext a; match a with | ⟨0, _⟩ => rfl
  have hz : (val_main_call1_v0 (F := Ideal) (ix2 r k) : EReal) = 0 := (val_main_call1_v0_apply _).trans Ideal.ofBits_zero_f32
  rw [val_main_v28_apply, val_main_v27_apply, first text offsets table ho ht, val_main_v26_apply, val_main_v25_apply, hb, hz]
  rfl

/-- The score of row `r` at class `c`. -/
theorem third (r : Fin 16384) (c : Fin 1000) : val_main_v33 (F := Ideal) text offsets table w1 b1 w2 b2 (ix2 r c)
    = score (fun e => table (ix2 (row (text (ix1 r))) e)) w1 b1 w2 b2 c := by
  have hb : idx_main_v31 (idx_main_v32 (ix2 r c)) = ix1 c := by funext a; match a with | ⟨0, _⟩ => rfl
  have hs : val_main_v30 (F := Ideal) text offsets table w1 b1 w2 (ix2 r c)
      = ∑ k : Fin 2048, hidden (fun e => table (ix2 (row (text (ix1 r))) e)) w1 b1 k * w2 (ix2 c k) := by
    refine (val_main_v30_apply text offsets table w1 b1 w2 (ix2 r c)).trans (Finset.sum_congr rfl fun k _ => ?_)
    have hl : lidx_main_v30 (ix2 r c) k = ix2 r k := by funext a; match a with | ⟨0, _⟩ => rfl | ⟨1, _⟩ => rfl
    have hr : idx_main_v29 (ridx_main_v30 (ix2 r c) k) = ix2 c k := by funext a; match a with | ⟨0, _⟩ => rfl | ⟨1, _⟩ => rfl
    rw [hl, val_main_v29_apply, hr, second text offsets table ho ht]
  rw [val_main_v33_apply, hs, val_main_v32_apply, val_main_v31_apply, hb]
  rfl

/-- The reference's result is the answer. -/
theorem result : val_main_v34 (F := Ideal) text offsets table w1 b1 w2 b2 = answer w1 b1 w2 b2 text table := by
  funext j
  unfold val_main_v34 answer
  split
  · rename_i h
    refine (pad_apply_of_inside _ _ _ _ _ _ _ _ (ix2 (j 0) ⟨(j 1).val, h⟩) fun a => ?_).trans
      (third text offsets table ho ht w1 b1 w2 b2 (j 0) ⟨(j 1).val, h⟩)
    match a with
    | ⟨0, _⟩ => show (j 0).val = 0 + (j 0).val * (0 + 1); omega
    | ⟨1, _⟩ => show (j 1).val = 0 + (j 1).val * (0 + 1); omega
  · rename_i h
    refine (pad_apply_of_not_inside _ _ _ _ _ _ _ _ (1 : Fin 2) fun hin => ?_).trans ?_
    · have h2 : ((j 1).val - 0) / (0 + 1) < 1000 := hin.2.2
      omega
    · show (((0#32 : BitVec 32).toInt : ℝ) : EReal) = 0
      simp

end Layers

end Cert.Proof.ReferenceValue

end
-- ==== Proof.lean ====
/-
  The proof of `Cert.Claim`: the frames are Proof/Frames.lean's, the idealization rewrites nothing, and the value claim
  is the two sides' common answer, the kernel's from Proof/Values/Kernel.lean and the reference's from
  Proof/Values/Reference.lean.
-/
module

public import proofs.«01_k».proof.Proof.Frames
public import proofs.«01_k».proof.Proof.Values.Kernel
public import proofs.«01_k».proof.Proof.Values.Reference

@[expose] public section

noncomputable section

namespace Cert.Proof

open Idealize.ShloMosaic Idealize.SL.Sem

/-- The reference's frame, of the arguments in range. -/
theorem frame_reference_in_range : Cert.quiescent_ReferenceIdeal_pre_in_range := fun m ρ _ => frame_reference m ρ trivial

/-- From arguments that agree and are in range, both programs end with the answer in their results, the arguments kept. -/
theorem algebraic : Cert.algebraic_KernelIdeal_ReferenceIdeal := fun m g m' g' hpre hargs => by
  refine ⟨fun d => KernelIdealRun.left (KernelIdealRun.R2 (F := Ideal) m) d Cert.KernelIdeal.main_v5, ?_, ?_⟩
  · exact (θ_run Cert.KernelIdeal.defs _ _).mono
      (fun r h d => ⟨h.1 d Cert.KernelIdeal.main_v5 (by decide), KernelIdealRun.args_kept m h d⟩)
      (KernelIdealRun.run_main (F := Ideal) m g fun d => (InRange.words _ _ _ _ _ _ _ (hpre d)).1)
  · refine (θ_run Cert.ReferenceIdeal.defs _ _).mono (fun r h d => ⟨?_, (h d).2⟩) (Cert.ReferenceIdeal.Value.run (F := Ideal) m' g')
    obtain ⟨e0, e1, e2, e3, e4, e5, e6⟩ := hargs d
    obtain ⟨ht, ho⟩ := InRange.words _ _ _ _ _ _ _ (hpre d)
    refine (h d).1.trans ((Cert.ReferenceIdeal.Read.val_main_v34_eq _ _ _ _ _ _ _).trans ?_)
    rw [e0, e1, e2, e3, e4, e5, e6]
    exact (ReferenceValue.result _ _ _ ho ht _ _ _ _).trans (KernelValue.result m d).symm

/-- Everything the certificate claims. -/
theorem claim : Cert.Claim :=
  ⟨Cert.Kernel.Gen.facts, Cert.KernelIdeal.Gen.facts, Cert.ReferenceIdeal.Gen.facts, Cert.Pre_in_range.Gen.facts,
    frame_kernel, frame_kernelIdeal, frame_reference, frame_reference_in_range, trivial, algebraic⟩

end Cert.Proof

end
